-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_clip_is_idle_KernelIdeal [hPre_clip_is_idle_KernelIdeal : Cert.Pre_clip_is_idle_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_clip_is_idle_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_clip_is_idle_ReferenceIdeal [hPre_clip_is_idle_ReferenceIdeal : Cert.Pre_clip_is_idle_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_clip_is_idle_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_SiluIdeal (m : (ℓ : Loc Cert.SiluIdeal.nD Cert.SiluIdeal.τ Cert.SiluIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_clip_is_idle_KernelIdeal [hKernelIdeal : Cert.KernelIdeal.Facts] [hPre_clip_is_idle_KernelIdeal : Cert.Pre_clip_is_idle_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_clip_is_idle_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_clip_is_idle_ReferenceIdeal [hReferenceIdeal : Cert.ReferenceIdeal.Facts] [hPre_clip_is_idle_ReferenceIdeal : Cert.Pre_clip_is_idle_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_clip_is_idle_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_SiluIdeal [hSiluIdeal : Cert.SiluIdeal.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
      ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1)
      ∧ r.2.mem ((c.tc : Thread Cert.SiluIdeal.nD Cert.SiluIdeal.τ).loc Cert.SiluIdeal.main_arg2) = m ((c.tc : Thread Cert.SiluIdeal.nD Cert.SiluIdeal.τ).loc Cert.SiluIdeal.main_arg2))
      ∧ r.2.sem = fun _ => 0)

def preserves_Kernel_KernelIdeal : Prop :=
  True

def algebraic_KernelIdeal_ReferenceIdeal_pre_clip_is_idle_KernelIdeal [hKernelIdeal : Cert.KernelIdeal.Facts] [hReferenceIdeal : Cert.ReferenceIdeal.Facts] [hPre_clip_is_idle_KernelIdeal : Cert.Pre_clip_is_idle_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_clip_is_idle_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![4096, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![512, 16384]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 512]⟩ ⟨2, ![16384, 512]⟩ 0 8 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![4096, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def algebraic_KernelIdeal_SiluIdeal [hKernelIdeal : Cert.KernelIdeal.Facts] [hSiluIdeal : Cert.SiluIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.SiluIdeal.nD Cert.SiluIdeal.τ Cert.SiluIdeal.sig) → Buf (Elt Ideal) ℓ) (g' : Dev Cert.SiluIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![4096, 512]⟩ 0 8 c (m' (((0 : Dev Cert.SiluIdeal.nD).tc : Thread Cert.SiluIdeal.nD Cert.SiluIdeal.τ).loc Cert.SiluIdeal.main_arg0))
      ∧ m ((c.tc : Thread Cert.KernelIdeal.nD Cert.KernelIdeal.τ).loc Cert.KernelIdeal.main_arg1) = Layout.block ⟨2, ![512, 2048]⟩ ⟨2, ![512, 16384]⟩ 1 8 c (m' (((0 : Dev Cert.SiluIdeal.nD).tc : Thread Cert.SiluIdeal.nD Cert.SiluIdeal.τ).loc Cert.SiluIdeal.main_arg1))
      ∧ m ((c.tc : Thread Cert.KernelIdeal.nD Cert.KernelIdeal.τ).loc Cert.KernelIdeal.main_arg2) = Layout.block ⟨2, ![2048, 512]⟩ ⟨2, ![16384, 512]⟩ 0 8 c (m' (((0 : Dev Cert.SiluIdeal.nD).tc : Thread Cert.SiluIdeal.nD Cert.SiluIdeal.τ).loc Cert.SiluIdeal.main_arg2))) →
    ∃ (v0 : Buf (Elt Ideal) (((0 : Dev Cert.SiluIdeal.nD).tc : Thread Cert.SiluIdeal.nD Cert.SiluIdeal.τ).loc Cert.SiluIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![4096, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.SiluIdeal.defs (F := Ideal)) (onTc (τ := Cert.SiluIdeal.τ) (Cert.SiluIdeal.main (F := Ideal))) ⟨m', fun _ => 0, g'⟩ (fun r =>
          r.2.mem (((0 : Dev Cert.SiluIdeal.nD).tc : Thread Cert.SiluIdeal.nD Cert.SiluIdeal.τ).loc Cert.SiluIdeal.main_v9) = v0
          ∧ r.2.mem (((0 : Dev Cert.SiluIdeal.nD).tc : Thread Cert.SiluIdeal.nD Cert.SiluIdeal.τ).loc Cert.SiluIdeal.main_arg0) = m' (((0 : Dev Cert.SiluIdeal.nD).tc : Thread Cert.SiluIdeal.nD Cert.SiluIdeal.τ).loc Cert.SiluIdeal.main_arg0)
          ∧ r.2.mem (((0 : Dev Cert.SiluIdeal.nD).tc : Thread Cert.SiluIdeal.nD Cert.SiluIdeal.τ).loc Cert.SiluIdeal.main_arg1) = m' (((0 : Dev Cert.SiluIdeal.nD).tc : Thread Cert.SiluIdeal.nD Cert.SiluIdeal.τ).loc Cert.SiluIdeal.main_arg1)
          ∧ r.2.mem (((0 : Dev Cert.SiluIdeal.nD).tc : Thread Cert.SiluIdeal.nD Cert.SiluIdeal.τ).loc Cert.SiluIdeal.main_arg2) = m' (((0 : Dev Cert.SiluIdeal.nD).tc : Thread Cert.SiluIdeal.nD Cert.SiluIdeal.τ).loc Cert.SiluIdeal.main_arg2))

def Claim : Prop :=
  ∃ (hKernel : Cert.Kernel.Facts) (hKernelIdeal : Cert.KernelIdeal.Facts) (hReferenceIdeal : Cert.ReferenceIdeal.Facts) (hSiluIdeal : Cert.SiluIdeal.Facts) (hPre_clip_is_idle_KernelIdeal : Cert.Pre_clip_is_idle_KernelIdeal.Facts) (hPre_clip_is_idle_ReferenceIdeal : Cert.Pre_clip_is_idle_ReferenceIdeal.Facts),
    quiescent_Kernel (hKernel := hKernel)
    ∧ quiescent_KernelIdeal (hKernelIdeal := hKernelIdeal)
    ∧ quiescent_KernelIdeal_pre_clip_is_idle_KernelIdeal (hKernelIdeal := hKernelIdeal) (hPre_clip_is_idle_KernelIdeal := hPre_clip_is_idle_KernelIdeal)
    ∧ quiescent_ReferenceIdeal (hReferenceIdeal := hReferenceIdeal)
    ∧ quiescent_ReferenceIdeal_pre_clip_is_idle_ReferenceIdeal (hReferenceIdeal := hReferenceIdeal) (hPre_clip_is_idle_ReferenceIdeal := hPre_clip_is_idle_ReferenceIdeal)
    ∧ quiescent_SiluIdeal (hSiluIdeal := hSiluIdeal)
    ∧ preserves_Kernel_KernelIdeal
    ∧ algebraic_KernelIdeal_ReferenceIdeal_pre_clip_is_idle_KernelIdeal (hKernelIdeal := hKernelIdeal) (hReferenceIdeal := hReferenceIdeal) (hPre_clip_is_idle_KernelIdeal := hPre_clip_is_idle_KernelIdeal)
    ∧ algebraic_KernelIdeal_SiluIdeal (hKernelIdeal := hKernelIdeal) (hSiluIdeal := hSiluIdeal)
-- ==== Pre_clip_is_idle_KernelIdeal.lean ====
abbrev S512x512 : Shape := ⟨2, ![512, 512]⟩
abbrev S512x2048 : Shape := ⟨2, ![512, 2048]⟩
abbrev S2048x512 : Shape := ⟨2, ![2048, 512]⟩
abbrev S_ : Shape := ⟨0, ![]⟩
abbrev S512 : Shape := ⟨1, ![512]⟩
abbrev S2048 : Shape := ⟨1, ![2048]⟩

class Facts : Prop where
  bitsLt_bf16_f32 : FTy.bits .bf16 < FTy.bits .f32
  reducesTo_S512x512_S512_d1 : S512x512.ReducesTo [1] S512
  h_S_ : 0 < S_.numel
  bcast_S_S512 : S_.BroadcastsInDim S512 (![] : Fin 0 → Fin S512.rank)
  reducesTo_S512_S_d0 : S512.ReducesTo [0] S_
  reducesTo_S512x2048_S2048_d0 : S512x2048.ReducesTo [0] S2048
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S512x512 .bf16) (main_arg1 : FVec F S512x2048 .bf16) (main_arg2 : FVec F S2048x512 .bf16) : IVec S_ 1 :=
  let main_v0 : FVec F S512x512 .f32 := (extf .f32 · bitsLt_bf16_f32) main_arg0
  let main_v1 : FVec F S512x2048 .f32 := (extf .f32 · bitsLt_bf16_f32) main_arg1
  let main_v2 : FVec F S512x512 .f32 := mulf main_v0 main_v0
  let main_cst : FVec F S_ .f32 := constant S_ .f32 0x00000000#32
  let main_v3 : FVec F S512 .f32 := (fun x v => Host.reduceAdd x v reducesTo_S512x512_S512_d1 h_S_) main_v2 main_cst
  let main_cst_0 : FVec F S_ .f32 := constant S_ .f32 0x44E10000#32
  let main_v4 : FVec F S512 .f32 := broadcastInDim S512 ![] bcast_S_S512 main_cst_0
  let main_v5 : IVec S512 1 := cmpf .ole main_v3 main_v4
  let main_c : IVec S_ 1 := constantI S_ 1 1#1
  let main_v6 : IVec S_ 1 := (fun x v => Host.reduce IntOp.andi x v reducesTo_S512_S_d0 h_S_) main_v5 main_c
  let main_v7 : FVec F S512x2048 .f32 := mulf main_v1 main_v1
  let main_cst_1 : FVec F S_ .f32 := constant S_ .f32 0x00000000#32
  let main_v8 : FVec F S2048 .f32 := (fun x v => Host.reduceAdd x v reducesTo_S512x2048_S2048_d0 h_S_) main_v7 main_cst_1
  let main_cst_2 : FVec F S_ .f32 := constant S_ .f32 0x40000000#32
  let main_v9 : FVec F S2048 .f32 := broadcastInDim S2048 ![] bcast_S_S2048 main_cst_2
  let main_v10 : IVec S2048 1 := cmpf .ole main_v8 main_v9
  let main_c_3 : IVec S_ 1 := constantI S_ 1 1#1
  let main_v11 : IVec S_ 1 := (fun x v => Host.reduce IntOp.andi x v reducesTo_S2048_S_d0 h_S_) main_v10 main_c_3
  let main_v12 : IVec S_ 1 := andi main_v6 main_v11
  main_v12
-- ==== Pre_clip_is_idle_ReferenceIdeal.lean ====
abbrev S4096x512 : Shape := ⟨2, ![4096, 512]⟩
abbrev S512x16384 : Shape := ⟨2, ![512, 16384]⟩
abbrev S16384x512 : Shape := ⟨2, ![16384, 512]⟩
abbrev S_ : Shape := ⟨0, ![]⟩
abbrev S4096 : Shape := ⟨1, ![4096]⟩
abbrev S16384 : Shape := ⟨1, ![16384]⟩

class Facts : Prop where
  bitsLt_bf16_f32 : FTy.bits .bf16 < FTy.bits .f32
  reducesTo_S4096x512_S4096_d1 : S4096x512.ReducesTo [1] S4096
  h_S_ : 0 < S_.numel
  bcast_S_S4096 : S_.BroadcastsInDim S4096 (![] : Fin 0 → Fin S4096.rank)
  reducesTo_S4096_S_d0 : S4096.ReducesTo [0] S_
  reducesTo_S512x16384_S16384_d0 : S512x16384.ReducesTo [0] S16384
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S4096x512 .bf16) (main_arg1 : FVec F S512x16384 .bf16) (main_arg2 : FVec F S16384x512 .bf16) : IVec S_ 1 :=
  let main_v0 : FVec F S4096x512 .f32 := (extf .f32 · bitsLt_bf16_f32) main_arg0
  let main_v1 : FVec F S512x16384 .f32 := (extf .f32 · bitsLt_bf16_f32) main_arg1
  let main_v2 : FVec F S4096x512 .f32 := mulf main_v0 main_v0
  let main_cst : FVec F S_ .f32 := constant S_ .f32 0x00000000#32
  let main_v3 : FVec F S4096 .f32 := (fun x v => Host.reduceAdd x v reducesTo_S4096x512_S4096_d1 h_S_) main_v2 main_cst
  let main_cst_0 : FVec F S_ .f32 := constant S_ .f32 0x44E10000#32
  let main_v4 : FVec F S4096 .f32 := broadcastInDim S4096 ![] bcast_S_S4096 main_cst_0
  let main_v5 : IVec S4096 1 := cmpf .ole main_v3 main_v4
  let main_c : IVec S_ 1 := constantI S_ 1 1#1
  let main_v6 : IVec S_ 1 := (fun x v => Host.reduce IntOp.andi x v reducesTo_S4096_S_d0 h_S_) main_v5 main_c
  let main_v7 : FVec F S512x16384 .f32 := mulf main_v1 main_v1
  let main_cst_1 : FVec F S_ .f32 := constant S_ .f32 0x00000000#32
  let main_v8 : FVec F S16384 .f32 := (fun x v => Host.reduceAdd x v reducesTo_S512x16384_S16384_d0 h_S_) main_v7 main_cst_1
  let main_cst_2 : FVec F S_ .f32 := constant S_ .f32 0x40000000#32
  let main_v9 : FVec F S16384 .f32 := broadcastInDim S16384 ![] bcast_S_S16384 main_cst_2
  let main_v10 : IVec S16384 1 := cmpf .ole main_v8 main_v9
  let main_c_3 : IVec S_ 1 := constantI S_ 1 1#1
  let main_v11 : IVec S_ 1 := (fun x v => Host.reduce IntOp.andi x v reducesTo_S16384_S_d0 h_S_) main_v10 main_c_3
  let main_v12 : IVec S_ 1 := andi main_v6 main_v11
  main_v12
-- ==== Kernel.lean ====
abbrev S512x512 : Shape := ⟨2, ![512, 512]⟩
abbrev S512x2048 : Shape := ⟨2, ![512, 2048]⟩
abbrev S2048x512 : Shape := ⟨2, ![2048, 512]⟩
abbrev S8x512x512 : Shape := ⟨3, ![8, 512, 512]⟩
abbrev S7x512x512 : Shape := ⟨3, ![7, 512, 512]⟩
abbrev S7 : Shape := ⟨1, ![7]⟩
abbrev S_ : Shape := ⟨0, ![]⟩
abbrev S1x512x512 : Shape := ⟨3, ![1, 512, 512]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S512x512, .bf16⟩
  | .hbm, ⟨1, _⟩ => ⟨S512x2048, .bf16⟩
  | .hbm, ⟨2, _⟩ => ⟨S2048x512, .bf16⟩
  | .hbm, ⟨3, _⟩ => ⟨S512x512, .f32⟩
  | .local _ .vmem, ⟨0, _⟩ => ⟨S512x512, .bf16⟩
  | .local _ .vmem, ⟨1, _⟩ => ⟨S512x2048, .bf16⟩
  | .local _ .vmem, ⟨2, _⟩ => ⟨S2048x512, .bf16⟩
  | .local _ .vmem, ⟨3, _⟩ => ⟨S512x512, .f32⟩
  | .local _ .vmem, ⟨4, _⟩ => ⟨S8x512x512, .bf16⟩
  | .local _ .vmem, ⟨5, _⟩ => ⟨S7x512x512, .bf16⟩
  | .local _ .vmem, ⟨6, _⟩ => ⟨S7x512x512, .bf16⟩
  | _, _ => ⟨S512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_43 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_36 : BitVec 32 := 1#32
  let v41 : BitVec 32 := Scalar.addi v2 c1_i32_36
  let c8_i32_37 : BitVec 32 := 8#32
  let v42 : BitVec 32 := Scalar.remsi v41 c8_i32_37
  let c1_i32_42 : BitVec 32 := 1#32
  let v43 : BitVec 32 := Scalar.muli v42 c1_i32_42
  let v44 : BitVec 32 := Scalar.addi c0_i32_43 v43
  v44.toNat
def k0_dev9 (d0 : Dev nD) : Nat :=
  let c0_i32_55 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_48 : BitVec 32 := 2#32
  let v53 : BitVec 32 := Scalar.addi v2 c2_i32_48
  let c8_i32_49 : BitVec 32 := 8#32
  let v54 : BitVec 32 := Scalar.remsi v53 c8_i32_49
  let c1_i32_54 : BitVec 32 := 1#32
  let v55 : BitVec 32 := Scalar.muli v54 c1_i32_54
  let v56 : BitVec 32 := Scalar.addi c0_i32_55 v55
  v56.toNat
def k0_dev10 (d0 : Dev nD) : Nat :=
  let c0_i32_67 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_60 : BitVec 32 := 3#32
  let v65 : BitVec 32 := Scalar.addi v2 c3_i32_60
  let c8_i32_61 : BitVec 32 := 8#32
  let v66 : BitVec 32 := Scalar.remsi v65 c8_i32_61
  let c1_i32_66 : BitVec 32 := 1#32
  let v67 : BitVec 32 := Scalar.muli v66 c1_i32_66
  let v68 : BitVec 32 := Scalar.addi c0_i32_67 v67
  v68.toNat
def k0_dev11 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_72 : BitVec 32 := 4#32
  let v77 : BitVec 32 := Scalar.addi v2 c4_i32_72
  let c8_i32_73 : BitVec 32 := 8#32
  let v78 : BitVec 32 := Scalar.remsi v77 c8_i32_73
  let c1_i32_78 : BitVec 32 := 1#32
  let v79 : BitVec 32 := Scalar.muli v78 c1_i32_78
  let v80 : BitVec 32 := Scalar.addi c0_i32_79 v79
  v80.toNat
def k0_dev12 (d0 : Dev nD) : Nat :=
  let c0_i32_91 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_84 : BitVec 32 := 5#32
  let v89 : BitVec 32 := Scalar.addi v2 c5_i32_84
  let c8_i32_85 : BitVec 32 := 8#32
  let v90 : BitVec 32 := Scalar.remsi v89 c8_i32_85
  let c1_i32_90 : BitVec 32 := 1#32
  let v91 : BitVec 32 := Scalar.muli v90 c1_i32_90
  let v92 : BitVec 32 := Scalar.addi c0_i32_91 v91
  v92.toNat
def k0_dev13 (d0 : Dev nD) : Nat :=
  let c0_i32_103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_96 : BitVec 32 := 6#32
  let v101 : BitVec 32 := Scalar.addi v2 c6_i32_96
  let c8_i32_97 : BitVec 32 := 8#32
  let v102 : BitVec 32 := Scalar.remsi v101 c8_i32_97
  let c1_i32_102 : BitVec 32 := 1#32
  let v103 : BitVec 32 := Scalar.muli v102 c1_i32_102
  let v104 : BitVec 32 := Scalar.addi c0_i32_103 v103
  v104.toNat
def k0_dev14 (d0 : Dev nD) : Nat :=
  let c0_i32_115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_108 : BitVec 32 := 7#32
  let v113 : BitVec 32 := Scalar.addi v2 c7_i32_108
  let c8_i32_109 : BitVec 32 := 8#32
  let v114 : BitVec 32 := Scalar.remsi v113 c8_i32_109
  let c1_i32_114 : BitVec 32 := 1#32
  let v115 : BitVec 32 := Scalar.muli v114 c1_i32_114
  let v116 : BitVec 32 := Scalar.addi c0_i32_115 v115
  v116.toNat
def k0_dev15 (d0 : Dev nD) : Nat :=
  let c0_i32_150 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_142 : BitVec 32 := 0#32
  let v151 : BitVec 32 := Scalar.addi v2 c0_i32_142
  let c1_i32_143 : BitVec 32 := 1#32
  let v152 : BitVec 32 := Scalar.addi v151 c1_i32_143
  let c8_i32_144 : BitVec 32 := 8#32
  let v153 : BitVec 32 := Scalar.remsi v152 c8_i32_144
  let c1_i32_149 : BitVec 32 := 1#32
  let v154 : BitVec 32 := Scalar.muli v153 c1_i32_149
  let v155 : BitVec 32 := Scalar.addi c0_i32_150 v154
  v155.toNat
def k0_dev16 (d0 : Dev nD) : Nat :=
  let c0_i32_180 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_172 : BitVec 32 := 1#32
  let v183 : BitVec 32 := Scalar.addi v2 c1_i32_172
  let c1_i32_173 : BitVec 32 := 1#32
  let v184 : BitVec 32 := Scalar.addi v183 c1_i32_173
  let c8_i32_174 : BitVec 32 := 8#32
  let v185 : BitVec 32 := Scalar.remsi v184 c8_i32_174
  let c1_i32_179 : BitVec 32 := 1#32
  let v186 : BitVec 32 := Scalar.muli v185 c1_i32_179
  let v187 : BitVec 32 := Scalar.addi c0_i32_180 v186
  v187.toNat
def k0_dev17 (d0 : Dev nD) : Nat :=
  let c0_i32_210 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_202 : BitVec 32 := 2#32
  let v215 : BitVec 32 := Scalar.addi v2 c2_i32_202
  let c1_i32_203 : BitVec 32 := 1#32
  let v216 : BitVec 32 := Scalar.addi v215 c1_i32_203
  let c8_i32_204 : BitVec 32 := 8#32
  let v217 : BitVec 32 := Scalar.remsi v216 c8_i32_204
  let c1_i32_209 : BitVec 32 := 1#32
  let v218 : BitVec 32 := Scalar.muli v217 c1_i32_209
  let v219 : BitVec 32 := Scalar.addi c0_i32_210 v218
  v219.toNat
def k0_dev18 (d0 : Dev nD) : Nat :=
  let c0_i32_240 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_232 : BitVec 32 := 3#32
  let v247 : BitVec 32 := Scalar.addi v2 c3_i32_232
  let c1_i32_233 : BitVec 32 := 1#32
  let v248 : BitVec 32 := Scalar.addi v247 c1_i32_233
  let c8_i32_234 : BitVec 32 := 8#32
  let v249 : BitVec 32 := Scalar.remsi v248 c8_i32_234
  let c1_i32_239 : BitVec 32 := 1#32
  let v250 : BitVec 32 := Scalar.muli v249 c1_i32_239
  let v251 : BitVec 32 := Scalar.addi c0_i32_240 v250
  v251.toNat
def k0_dev19 (d0 : Dev nD) : Nat :=
  let c0_i32_270 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_262 : BitVec 32 := 4#32
  let v279 : BitVec 32 := Scalar.addi v2 c4_i32_262
  let c1_i32_263 : BitVec 32 := 1#32
  let v280 : BitVec 32 := Scalar.addi v279 c1_i32_263
  let c8_i32_264 : BitVec 32 := 8#32
  let v281 : BitVec 32 := Scalar.remsi v280 c8_i32_264
  let c1_i32_269 : BitVec 32 := 1#32
  let v282 : BitVec 32 := Scalar.muli v281 c1_i32_269
  let v283 : BitVec 32 := Scalar.addi c0_i32_270 v282
  v283.toNat
def k0_dev20 (d0 : Dev nD) : Nat :=
  let c0_i32_300 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_292 : BitVec 32 := 5#32
  let v311 : BitVec 32 := Scalar.addi v2 c5_i32_292
  let c1_i32_293 : BitVec 32 := 1#32
  let v312 : BitVec 32 := Scalar.addi v311 c1_i32_293
  let c8_i32_294 : BitVec 32 := 8#32
  let v313 : BitVec 32 := Scalar.remsi v312 c8_i32_294
  let c1_i32_299 : BitVec 32 := 1#32
  let v314 : BitVec 32 := Scalar.muli v313 c1_i32_299
  let v315 : BitVec 32 := Scalar.addi c0_i32_300 v314
  v315.toNat
def k0_dev21 (d0 : Dev nD) : Nat :=
  let c0_i32_330 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_322 : BitVec 32 := 6#32
  let v343 : BitVec 32 := Scalar.addi v2 c6_i32_322
  let c1_i32_323 : BitVec 32 := 1#32
  let v344 : BitVec 32 := Scalar.addi v343 c1_i32_323
  let c8_i32_324 : BitVec 32 := 8#32
  let v345 : BitVec 32 := Scalar.remsi v344 c8_i32_324
  let c1_i32_329 : BitVec 32 := 1#32
  let v346 : BitVec 32 := Scalar.muli v345 c1_i32_329
  let v347 : BitVec 32 := Scalar.addi c0_i32_330 v346
  v347.toNat
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x512 : Shape := ⟨2, ![4096, 512]⟩
abbrev S512x16384 : Shape := ⟨2, ![512, 16384]⟩
abbrev S16384x512 : Shape := ⟨2, ![16384, 512]⟩
abbrev S4096x16384 : Shape := ⟨2, ![4096, 16384]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x16384, .bf16⟩
  | .hbm, ⟨2, _⟩ => ⟨S16384x512, .bf16⟩
  | .hbm, ⟨3, _⟩ => ⟨S4096x512, .f32⟩
  | .hbm, ⟨4, _⟩ => ⟨S512x16384, .f32⟩
  | .hbm, ⟨5, _⟩ => ⟨S16384x512, .f32⟩
  | .hbm, ⟨6, _⟩ => ⟨S4096x16384, .f32⟩
  | .hbm, ⟨7, _⟩ => ⟨S_, .i32⟩
  | .hbm, ⟨8, _⟩ => ⟨S_, .i32⟩
  | .hbm, ⟨9, _⟩ => ⟨S_, .f32⟩
  | .hbm, ⟨10, _⟩ => ⟨S4096x16384, .f32⟩
  | .hbm, ⟨11, _⟩ => ⟨S4096x16384, .f32⟩
  | .hbm, ⟨12, _⟩ => ⟨S_, .f32⟩
  | .hbm, ⟨13, _⟩ => ⟨S4096x16384, .f32⟩
  | .hbm, ⟨14, _⟩ => ⟨S4096x16384, .f32⟩
  | .hbm, ⟨15, _⟩ => ⟨S4096x16384, .f32⟩
  | .hbm, ⟨16, _⟩ => ⟨S4096x16384, .f32⟩
  | .hbm, ⟨17, _⟩ => ⟨S_, .f32⟩
  | .hbm, ⟨18, _⟩ => ⟨S4096x16384, .f32⟩
  | .hbm, ⟨19, _⟩ => ⟨S4096x16384, .f32⟩
  | .hbm, ⟨20, _⟩ => ⟨S4096x16384, .f32⟩
  | .hbm, ⟨21, _⟩ => ⟨S4096x512, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]
-- ==== SiluIdeal.lean ====
abbrev S4096x512 : Shape := ⟨2, ![4096, 512]⟩
abbrev S512x16384 : Shape := ⟨2, ![512, 16384]⟩
abbrev S16384x512 : Shape := ⟨2, ![16384, 512]⟩
abbrev S4096x16384 : Shape := ⟨2, ![4096, 16384]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x16384, .bf16⟩
  | .hbm, ⟨2, _⟩ => ⟨S16384x512, .bf16⟩
  | .hbm, ⟨3, _⟩ => ⟨S4096x512, .f32⟩
  | .hbm, ⟨4, _⟩ => ⟨S512x16384, .f32⟩
  | .hbm, ⟨5, _⟩ => ⟨S16384x512, .f32⟩
  | .hbm, ⟨6, _⟩ => ⟨S4096x16384, .f32⟩
  | .hbm, ⟨7, _⟩ => ⟨S4096x16384, .f32⟩
  | .hbm, ⟨8, _⟩ => ⟨S4096x16384, .f32⟩
  | .hbm, ⟨9, _⟩ => ⟨S_, .f32⟩
  | .hbm, ⟨10, _⟩ => ⟨S4096x16384, .f32⟩
  | .hbm, ⟨11, _⟩ => ⟨S4096x16384, .f32⟩
  | .hbm, ⟨12, _⟩ => ⟨S4096x16384, .f32⟩
  | .hbm, ⟨13, _⟩ => ⟨S4096x512, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.Slots.lean ====
/- The kernel's three stacked scratch buffers, slot by slot: the memref of a slot, what owning a slot's contents
   means, how a buffer splits into its slots and is put together again, and how the load, the store and the
   remote copy of one slot act on it. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.ViewIndex
public import Idealize.ShloMosaic.Lib.Memref
public import Idealize.ShloMosaic.Lib.Tactic

@[expose] public section

set_option maxRecDepth 16384

noncomputable section

namespace Cert.KRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's, whose duties are numbered by the seven peers -/

/-- The ghost state of the exchange: rounds on every semaphore, with up to seven duties each. -/
abbrev UB : Type := URounds (GSem nD τ sig) (Fin 7)
/-- The pipeline's ghost state beside the exchange's. -/
abbrev UU : Type := UR sig nD τ × UB

local notation "𝕄" => MT nD τ sig Unit (Elt F) ℕ UU ℕ

/-- Where the pipeline's ghost state lies. -/
abbrev EP : Emb (UR sig nD τ) (MT nD τ sig Unit (Elt F) ℕ UU ℕ) := embL
/-- Where the exchange's ghost state lies. -/
abbrev ER : Emb UB (MT nD τ sig Unit (Elt F) ℕ UU ℕ) := embR

/-! ## Slots -/

/-- The buffer of the gathered rows, whole. -/
abbrev xgM : Memref sig .tc .vmem S8x512x512 .bf16 := Memref.whole cc0_scratch0
/-- The buffer of the partial sums to be sent, whole. -/
abbrev cbM : Memref sig .tc .vmem S7x512x512 .bf16 := Memref.whole cc0_scratch1
/-- The buffer of the returned partial sums, whole. -/
abbrev rsM : Memref sig .tc .vmem S7x512x512 .bf16 := Memref.whole cc0_scratch2

/-- A slot of eight lies within its buffer. -/
theorem inb8 (k : Fin 8) : ∀ a, (![k.val, 0, 0] : Fin 3 → Nat) a + S1x512x512.size a ≤ S8x512x512.size a := by
  revert k; decide
/-- A slot of seven lies within its buffer. -/
theorem inb7 (k : Fin 7) : ∀ a, (![k.val, 0, 0] : Fin 3 → Nat) a + S1x512x512.size a ≤ S7x512x512.size a := by
  revert k; decide

/-- Row block `k` of the eight-slot buffer; -/
abbrev r8 (k : Fin 8) : Rect S8x512x512 := Rect.unit (s := S8x512x512) ![k.val, 0, 0] S1x512x512.size (inb8 k)
/-- of a seven-slot buffer. -/
abbrev r7 (k : Fin 7) : Rect S7x512x512 := Rect.unit (s := S7x512x512) ![k.val, 0, 0] S1x512x512.size (inb7 k)

/-- Slot `k` of the gathered inputs, -/
abbrev xgR (k : Fin 8) : Memref sig .tc .vmem S1x512x512 .bf16 := xgM.slice (r8 k) (fun _ => rfl)
/-- of the contributions to be sent, -/
abbrev cbR (k : Fin 7) : Memref sig .tc .vmem S1x512x512 .bf16 := cbM.slice (r7 k) (fun _ => rfl)
/-- of the contributions received. -/
abbrev rsR (k : Fin 7) : Memref sig .tc .vmem S1x512x512 .bf16 := rsM.slice (r7 k) (fun _ => rfl)

/-- A slot as the remote copies address it: without its leading dimension of one. -/
abbrev sq (M : Memref sig .tc .vmem S1x512x512 .bf16) : Memref sig .tc .vmem S512x512 .bf16 := M.squeeze S512x512 squeezes_S1x512x512_S512x512

/-- What a slot holds. -/
abbrev Slab (F : FTy → Type) := S1x512x512.Idx → Elt F .bf16

/-- Device `c` owns slot memref `M` at share `q`, reading `v`. -/
abbrev holds (c : Dev nD) (M : Memref sig .tc .vmem S1x512x512 .bf16) (q : PosShare TreeShare) (v : Slab F) : sProp 𝕄 :=
  owns (Ix := Unit) (Name := ℕ) (U := UU) (Lvl := ℕ) (c : Thread nD τ) M q v

/-- Device `c` owns the whole slot, holding anything. -/
abbrev free (c : Dev nD) (M : Memref sig .tc .vmem S1x512x512 .bf16) : sProp 𝕄 := iprop(∃ v : Slab F, holds c M fullShare v)

/-- Two different slots of eight do not meet. -/
theorem disj8 (k k' : Fin 8) (h : k ≠ k') : Disjoint (r8 k).set (r8 k').set := by
  rw [Finset.disjoint_left]
  intro i hi hi'
  have h0 := (Rect.mem_set_unit.mp hi) 0
  have h1 := (Rect.mem_set_unit.mp hi') 0
  apply h
  apply Fin.ext
  simp at h0 h1
  omega

/-- The eight slots make up their buffer. -/
theorem cover8 : (Finset.univ : Finset (Fin 8)).biUnion (fun k => (r8 k).set) = Finset.univ := by
  ext i
  simp only [Finset.mem_univ, Finset.mem_biUnion, true_and, iff_true]
  refine ⟨⟨(i 0).val, (i 0).isLt⟩, Rect.mem_set_unit.mpr fun a => ?_⟩
  match a with
  | ⟨0, _⟩ => exact ⟨le_refl _, Nat.lt_succ_self _⟩
  | ⟨1, _⟩ => exact ⟨Nat.zero_le _, by have := (i 1).isLt; simpa using this⟩
  | ⟨2, _⟩ => exact ⟨Nat.zero_le _, by have := (i 2).isLt; simpa using this⟩

/-- Two different slots of seven do not meet. -/
theorem disj7 (k k' : Fin 7) (h : k ≠ k') : Disjoint (r7 k).set (r7 k').set := by
  rw [Finset.disjoint_left]
  intro i hi hi'
  have h0 := (Rect.mem_set_unit.mp hi) 0
  have h1 := (Rect.mem_set_unit.mp hi') 0
  apply h
  apply Fin.ext
  simp at h0 h1
  omega

/-- The seven slots make up their buffer. -/
theorem cover7 : (Finset.univ : Finset (Fin 7)).biUnion (fun k => (r7 k).set) = Finset.univ := by
  ext i
  simp only [Finset.mem_univ, Finset.mem_biUnion, true_and, iff_true]
  refine ⟨⟨(i 0).val, (i 0).isLt⟩, Rect.mem_set_unit.mpr fun a => ?_⟩
  match a with
  | ⟨0, _⟩ => exact ⟨le_refl _, Nat.lt_succ_self _⟩
  | ⟨1, _⟩ => exact ⟨Nat.zero_le _, by have := (i 1).isLt; simpa using this⟩
  | ⟨2, _⟩ => exact ⟨Nat.zero_le _, by have := (i 2).isLt; simpa using this⟩

/-! ### A buffer and a disjoint covering family of its rectangles -/

section Cut

variable {sh : Shape} {e : EltTy} {T : Type} [Fintype T] [DecidableEq T]
variable (c : Dev nD) (m : Memref sig .tc .vmem sh e) (q : PosShare TreeShare) (r : T → Rect sh)

/-- Contents of the parts of a disjoint family are the parts of one whole. -/
theorem stack_exists (hd : ∀ t t', t ≠ t' → Disjoint (r t).set (r t').set) [Nonempty (Elt F e)]
    (v : ∀ t, (r t).shape.Idx → Elt F e) : ∃ X : sh.Idx → Elt F e, ∀ t j, X ((r t).emb j) = v t j := by
  classical
  refine ⟨fun i => if h : ∃ p : Σ t, (r t).shape.Idx, (r p.1).emb p.2 = i then v h.choose.1 h.choose.2 else Classical.arbitrary _, fun t j => ?_⟩
  have h : ∃ p : Σ t, (r t).shape.Idx, (r p.1).emb p.2 = (r t).emb j := ⟨⟨t, j⟩, rfl⟩
  beta_reduce
  rw [dif_pos h]
  obtain ⟨⟨t', j'⟩, hp⟩ : ∃ p, p = h.choose := ⟨_, rfl⟩
  have hs := h.choose_spec
  rw [← hp] at hs ⊢
  have ht : t' = t := by
    by_contra hn
    have h₁ : (r t').emb j' ∈ (r t').set := by rw [← Rect.map_emb_univ]; exact Finset.mem_map_of_mem _ (Finset.mem_univ _)
    have h₂ : (r t').emb j' ∈ (r t).set := by rw [hs, ← Rect.map_emb_univ]; exact Finset.mem_map_of_mem _ (Finset.mem_univ _)
    exact Finset.disjoint_left.mp (hd t' t hn) h₁ h₂
  subst ht
  rw [(r t').emb.injective hs]

/-- Holding a memref, as the contents of its buffer and what the memref reads of them. -/
theorem owns_unfold (v : sh.Idx → Elt F e) : (owns (c : Thread nD τ) m q v : sProp 𝕄)
    = iprop(∃ g, ⌜m.view.read (Elt F) g = v⌝ ∗ m.view.loc (c : Thread nD τ) ↦[m.view.set]{q} g) := rfl

/-- Owning known contents is owning some contents. -/
theorem owns_any (v : sh.Idx → Elt F e) : (owns (c : Thread nD τ) m q v : sProp 𝕄) ⊢ iprop(∃ v, owns (c : Thread nD τ) m q v) := by
  iintro H; iexists v; iexact H

/-- Owning a part of a buffer at the contents that the whole buffer holds there. -/
theorem owns_part (ρ : Rect sh) (hr : ∀ a, ρ.stride a = 1) (g : m.view.ty.Contents (Elt F)) :
    (owns (c : Thread nD τ) (m.slice ρ hr) q ((m.view.slice ρ).read (Elt F) g) : sProp 𝕄) = (m.view.loc (c : Thread nD τ) ↦[(m.view.slice ρ).set]{q} g) :=
  owns_slice_read (c : Thread nD τ) m q ρ hr g

/-- A buffer held whole is each of its parts held, at some contents; -/
theorem cut_free (hr : ∀ t a, (r t).stride a = 1) (hd : ∀ t t', t ≠ t' → Disjoint (r t).set (r t').set)
    (hcov : (Finset.univ : Finset T).biUnion (fun t => (r t).set) = Finset.univ) (X : sh.Idx → Elt F e) :
    (owns (c : Thread nD τ) m q X : sProp 𝕄) ⊢ bigSep Finset.univ fun t => iprop(∃ v, owns (c : Thread nD τ) (m.slice (r t) (hr t)) q v) := by
  refine (owns_rects (c : Thread nD τ) m q r hr hd hcov X).trans (bigSep_mono fun t _ => owns_any c _ q _)

/-- and back. -/
theorem join_free (hr : ∀ t a, (r t).stride a = 1) (hd : ∀ t t', t ≠ t' → Disjoint (r t).set (r t').set)
    (hcov : (Finset.univ : Finset T).biUnion (fun t => (r t).set) = Finset.univ) [∀ e, Nonempty (Elt F e)] :
    (bigSep Finset.univ fun t => iprop(∃ v, owns (c : Thread nD τ) (m.slice (r t) (hr t)) q v) : sProp 𝕄) ⊢ iprop(∃ X, owns (c : Thread nD τ) m q X) := by
  iintro H
  ihave H' := (BI.bigSep_exists_pi Finset.univ (fun t (v : (r t).shape.Idx → Elt F e) => (owns (c : Thread nD τ) (m.slice (r t) (hr t)) q v : sProp 𝕄))) $$ H
  icases H' with ⟨%v, H⟩
  obtain ⟨X, hX⟩ := stack_exists r hd v
  iexists X
  iapply (owns_of_rects (c : Thread nD τ) m q r hr hd hcov X)
  iapply (Entails.of_eq (bigSep_congr fun t _ => by rw [show (fun j => X ((r t).emb j)) = v t from funext (hX t)])) $$ H

/-- Part of a buffer, held at a share reading `v`, is the remainder of that share and seven read tokens of it. -/
theorem cut_toks (ρ : Rect sh) (hr : ∀ a, ρ.stride a = 1) (v : ρ.shape.Idx → Elt F e) :
    (owns (c : Thread nD τ) (m.slice ρ hr) q v : sProp 𝕄)
      ⊢ iprop(owns (c : Thread nD τ) (m.slice ρ hr) (Transfers.shareDrop q 7) v
          ∗ bigSep Finset.univ fun i : Fin 7 => owns (c : Thread nD τ) (m.slice ρ hr) (Transfers.shareTok q 7 i) v) := by
  rw [owns_unfold]
  iintro ⟨%g, %hg, H⟩
  subst hg
  simp only [Memref.view_slice, owns_part]
  iapply (Transfers.pointsTo_toks_split q 7) $$ H

/-- and the remainder and the seven tokens are the share. -/
theorem join_toks (ρ : Rect sh) (hr : ∀ a, ρ.stride a = 1) (v : ρ.shape.Idx → Elt F e) :
    iprop(owns (c : Thread nD τ) (m.slice ρ hr) (Transfers.shareDrop q 7) v
          ∗ bigSep Finset.univ fun i : Fin 7 => owns (c : Thread nD τ) (m.slice ρ hr) (Transfers.shareTok q 7 i) v)
      ⊢ (owns (c : Thread nD τ) (m.slice ρ hr) q v : sProp 𝕄) := by
  rw [owns_unfold c _ (Transfers.shareDrop q 7)]
  iintro ⟨⟨%g, %hg, H⟩, Ht⟩
  subst hg
  simp only [Memref.view_slice, owns_part]
  iapply (Transfers.pointsTo_toks_join q 7)
  isplitl [H] <;> iassumption

end Cut

/-! ### Loads and stores of a slot -/

/-- No loop needs a measure. -/
abbrev 𝒱₀ : Variants := Variants.none

section Access

variable {sh : Shape} {e : EltTy} (c : Dev nD) (m : Memref sig .tc .vmem sh e) (r : Rect sh) (hr : ∀ a, r.stride a = 1)

/-- A load of part of a buffer, held at any share, yields what the part holds. -/
theorem load_part {α : Type} {Q : α → sProp 𝕄} (q : PosShare TreeShare) (v : r.shape.Idx → Elt F e) {hl : m.view.LoadsAt r.toLoadRect}
    {k : (r.shape.Idx → Elt F e) → Prog (TpuEff nD τ sig (Elt F) Λ₀ .tc) α} :
    (owns (c : Thread nD τ) (m.slice r hr) q v : sProp 𝕄)
      ⊢ iprop((owns (c : Thread nD τ) (m.slice r hr) q v -∗ wp frame (wpE (defs₀ (F := F)) 𝒱₀ (c : Thread nD τ) none) Set.univ (k v) Q)
          -∗ wp frame (wpE (defs₀ (F := F)) 𝒱₀ (c : Thread nD τ) none) Set.univ (.op (.load m r.toLoadRect hl) k) Q) := by
  rw [owns_unfold]
  iintro ⟨%g, %hg, H⟩ Hk
  subst hg
  iapply (wp_load_rect 𝒱₀ (c : Thread nD τ) none Set.univ (m := m) (r := r) (Finset.Subset.refl _)) $$ H
  iintro H
  iapply Hk
  iexists g
  isplitr; · ipureintro; rfl
  iexact H

/-- A store to part of a buffer, held outright, leaves the part holding what was stored. -/
theorem store_part {α : Type} {Q : α → sProp 𝕄} (v w : r.shape.Idx → Elt F e) {hx : (m.access r).Stores Finset.univ} {hm : (Finset.univ : Finset r.shape.Idx) = Finset.univ ∨ ∀ a, r.stride a = 1}
    {k : PUnit → Prog (TpuEff nD τ sig (Elt F) Λ₀ .tc) α} :
    (owns (c : Thread nD τ) (m.slice r hr) fullShare v : sProp 𝕄)
      ⊢ iprop((owns (c : Thread nD τ) (m.slice r hr) fullShare w -∗ wp frame (wpE (defs₀ (F := F)) 𝒱₀ (c : Thread nD τ) none) Set.univ (k ⟨⟩) Q)
          -∗ wp frame (wpE (defs₀ (F := F)) 𝒱₀ (c : Thread nD τ) none) Set.univ (.op (.store m r w Finset.univ hx hm) k) Q) := by
  rw [owns_unfold, owns_unfold]
  iintro ⟨%g, %hg, H⟩ Hk
  iapply (wp_store 𝒱₀ (c : Thread nD τ) none Set.univ (m := m) (r := r) (w := w) (Mk := Finset.univ) (f := g) (S := (m.access r).set) (Finset.Subset.refl _)) $$ H
  iintro H
  iapply Hk
  iexists ((m.access r).write (Elt F) g w Finset.univ)
  isplitr; · ipureintro; exact View.read_write_univ (v := m.access r) g w
  iexact H

end Access

/-! ### The copy of a slot to a slot -/

/-- A copy between slots, both addressed without their leading dimension, moves the slot's contents as they are. -/
theorem copy_slot (M M' : Memref sig .tc .vmem S1x512x512 .bf16) (f : M.view.ty.Contents (Elt F)) (f' : M'.view.ty.Contents (Elt F)) :
    M'.view.read (Elt F) ((sq M').view.write (Elt F) f' ((sq M).view.read (Elt F) f) Finset.univ) = M.view.read (Elt F) f := by
  funext x
  rw [← (Shape.reshapeEquiv (s := S1x512x512) (s' := S512x512) (squeezes_S1x512x512_S512x512).numel_eq).apply_symm_apply x]
  exact View.read_write_reshape (v := M'.view) _ f' _ _

end Cert.KRun

end
-- ==== Proof.Protocol.lean ====
/- The exchange's protocol: who signals or copies onto which semaphore, how much, and what each landing hands over.

   Device `c`'s peers are `peer c 0 … peer c 6`, the devices `c + 1 … c + 7` modulo eight; the peer that reaches `c`
   in step `i` is reached by `c` in step `6 - i` (`peer_rev`).
   * The barrier semaphore of `c` is signalled once by each peer and waited for seven units. Peer `peer c j`'s signal
     hands over slot `6 - j` of that peer's two landing buffers: the slots `c` will copy into.
   * `ag_send[i]`: the read token `i` of `c`'s own input slot, back from the copy to `peer c i`.
   * `ag_recv[k]`: slot `k` of the gathered inputs, holding the input block of `peer c k`.
   * `rs_send[k]`: slot `k` of the contributions to be sent, back from the copy to `peer c k`.
   * `rs_recv[k]`: slot `k` of the received contributions, holding the product of `c`'s input block with the weights
     of `peer c k`. -/
module

public import proofs.«01_k».proof.Proof.Slots

@[expose] public section

set_option maxRecDepth 16384

noncomputable section

namespace Cert.KRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The peers -/

set_option backward.proofsInPublic true in
/-- The device `i + 1` places after `c`. -/
def peer (c : Dev nD) (i : Fin 7) : Dev nD := ⟨(c.val + (i.val + 1)) % 8, Nat.mod_lt _ (by decide)⟩

set_option backward.proofsInPublic true in
/-- The step in which the peer of step `i` reaches back. -/
def rev (i : Fin 7) : Fin 7 := ⟨6 - i.val, by omega⟩

/-- Reversing a step twice gives the step. -/
theorem rev_rev (i : Fin 7) : rev (rev i) = i := by revert i; decide
/-- The peer of a step reaches back in the reversed step. -/
theorem peer_rev (c : Dev nD) (i : Fin 7) : peer (peer c i) (rev i) = c := by revert c i; decide
/-- The peer of a reversed step reaches back in the step. -/
theorem peer_rev' (c : Dev nD) (i : Fin 7) : peer (peer c (rev i)) i = c := by revert c i; decide

/-- Going from every device to its peer of step `i` is a permutation of the devices. -/
def around (i : Fin 7) : Dev nD ≃ Dev nD := ⟨fun c => peer c i, fun c => peer c (rev i), fun c => peer_rev c i, fun c => peer_rev' c i⟩
/-- The reversal of the steps, as a permutation. -/
def revE : Fin 7 ≃ Fin 7 := ⟨rev, rev, rev_rev, rev_rev⟩

/-- The peer that the kernel computes at this place. -/
theorem dev1_eq (c : Dev nD) : (⟨k0_dev1 c, k0_dev1_lt c⟩ : Dev nD) = peer c 0 := Fin.ext (k0_dev1_eq c)
/-- The peer that the kernel computes at this place. -/
theorem dev2_eq (c : Dev nD) : (⟨k0_dev2 c, k0_dev2_lt c⟩ : Dev nD) = peer c 1 := Fin.ext (k0_dev2_eq c)
/-- The peer that the kernel computes at this place. -/
theorem dev3_eq (c : Dev nD) : (⟨k0_dev3 c, k0_dev3_lt c⟩ : Dev nD) = peer c 2 := Fin.ext (k0_dev3_eq c)
/-- The peer that the kernel computes at this place. -/
theorem dev4_eq (c : Dev nD) : (⟨k0_dev4 c, k0_dev4_lt c⟩ : Dev nD) = peer c 3 := Fin.ext (k0_dev4_eq c)
/-- The peer that the kernel computes at this place. -/
theorem dev5_eq (c : Dev nD) : (⟨k0_dev5 c, k0_dev5_lt c⟩ : Dev nD) = peer c 4 := Fin.ext (k0_dev5_eq c)
/-- The peer that the kernel computes at this place. -/
theorem dev6_eq (c : Dev nD) : (⟨k0_dev6 c, k0_dev6_lt c⟩ : Dev nD) = peer c 5 := Fin.ext (k0_dev6_eq c)
/-- The peer that the kernel computes at this place. -/
theorem dev7_eq (c : Dev nD) : (⟨k0_dev7 c, k0_dev7_lt c⟩ : Dev nD) = peer c 6 := Fin.ext (k0_dev7_eq c)
/-- The peer that the kernel computes at this place. -/
theorem dev8_eq (c : Dev nD) : (⟨k0_dev8 c, k0_dev8_lt c⟩ : Dev nD) = peer c 0 := Fin.ext (k0_dev8_eq c)
/-- The peer that the kernel computes at this place. -/
theorem dev9_eq (c : Dev nD) : (⟨k0_dev9 c, k0_dev9_lt c⟩ : Dev nD) = peer c 1 := Fin.ext (k0_dev9_eq c)
/-- The peer that the kernel computes at this place. -/
theorem dev10_eq (c : Dev nD) : (⟨k0_dev10 c, k0_dev10_lt c⟩ : Dev nD) = peer c 2 := Fin.ext (k0_dev10_eq c)
/-- The peer that the kernel computes at this place. -/
theorem dev11_eq (c : Dev nD) : (⟨k0_dev11 c, k0_dev11_lt c⟩ : Dev nD) = peer c 3 := Fin.ext (k0_dev11_eq c)
/-- The peer that the kernel computes at this place. -/
theorem dev12_eq (c : Dev nD) : (⟨k0_dev12 c, k0_dev12_lt c⟩ : Dev nD) = peer c 4 := Fin.ext (k0_dev12_eq c)
/-- The peer that the kernel computes at this place. -/
theorem dev13_eq (c : Dev nD) : (⟨k0_dev13 c, k0_dev13_lt c⟩ : Dev nD) = peer c 5 := Fin.ext (k0_dev13_eq c)
/-- The peer that the kernel computes at this place. -/
theorem dev14_eq (c : Dev nD) : (⟨k0_dev14 c, k0_dev14_lt c⟩ : Dev nD) = peer c 6 := Fin.ext (k0_dev14_eq c)
/-- The peer that the kernel computes at this place. -/
theorem dev15_eq (c : Dev nD) : (⟨k0_dev15 c, k0_dev15_lt c⟩ : Dev nD) = peer c 0 := Fin.ext (k0_dev15_eq c)
/-- The peer that the kernel computes at this place. -/
theorem dev16_eq (c : Dev nD) : (⟨k0_dev16 c, k0_dev16_lt c⟩ : Dev nD) = peer c 1 := Fin.ext (k0_dev16_eq c)
/-- The peer that the kernel computes at this place. -/
theorem dev17_eq (c : Dev nD) : (⟨k0_dev17 c, k0_dev17_lt c⟩ : Dev nD) = peer c 2 := Fin.ext (k0_dev17_eq c)
/-- The peer that the kernel computes at this place. -/
theorem dev18_eq (c : Dev nD) : (⟨k0_dev18 c, k0_dev18_lt c⟩ : Dev nD) = peer c 3 := Fin.ext (k0_dev18_eq c)
/-- The peer that the kernel computes at this place. -/
theorem dev19_eq (c : Dev nD) : (⟨k0_dev19 c, k0_dev19_lt c⟩ : Dev nD) = peer c 4 := Fin.ext (k0_dev19_eq c)
/-- The peer that the kernel computes at this place. -/
theorem dev20_eq (c : Dev nD) : (⟨k0_dev20 c, k0_dev20_lt c⟩ : Dev nD) = peer c 5 := Fin.ext (k0_dev20_eq c)
/-- The peer that the kernel computes at this place. -/
theorem dev21_eq (c : Dev nD) : (⟨k0_dev21 c, k0_dev21_lt c⟩ : Dev nD) = peer c 6 := Fin.ext (k0_dev21_eq c)

/-! ## The cells -/

/-- The runtime's barrier semaphore (unscoped). -/
abbrev barS : Sem sig := (SemArray.scalar (sig.barrier 0 rfl) : Sems sig S_).sem

set_option backward.proofsInPublic true in
/-- The exchange's copies' semaphores: array `q` (0 `ag_send`, 1 `ag_recv`, 2 `rs_send`, 3 `rs_recv`), entry `k`. -/
def dsem (q : Fin 4) (k : Fin 7) : DmaSem sig := ⟨4 + (7 * q.val + k.val), by
  show 4 + (7 * q.val + k.val) < 32; omega⟩

set_option backward.proofsInPublic true in
def qOf (s : DmaSem sig) : Fin 4 := ⟨(s.val - 4) / 7 % 4, Nat.mod_lt _ (by decide)⟩
set_option backward.proofsInPublic true in
def kOf (s : DmaSem sig) : Fin 7 := ⟨(s.val - 4) % 7, Nat.mod_lt _ (by decide)⟩

/-- A copy's semaphore tells its group -/
theorem qOf_dsem (q : Fin 4) (k : Fin 7) : qOf (dsem q k) = q := by revert q k; decide
/-- and its step. -/
theorem kOf_dsem (q : Fin 4) (k : Fin 7) : kOf (dsem q k) = k := by revert q k; decide
/-- The copies' semaphores come after the pipeline's four. -/
theorem four_le_dsem (q : Fin 4) (k : Fin 7) : 4 ≤ (dsem q k).val := Nat.le_add_right _ _

/-- Device `c`'s barrier semaphore. -/
abbrev barCell (c : Dev nD) : GSem nD τ sig := ((c : Thread nD τ), .reg barS)
/-- Device `c`'s copy semaphore of group `q` and step `k`. -/
abbrev xcell (c : Dev nD) (q : Fin 4) (k : Fin 7) : GSem nD τ sig := ((c : Thread nD τ), .dma (dsem q k))

/-- The kernel's OWN (scoped) semaphores; -/
abbrev osem : Fin 4 × Fin 7 → SemLoc sig := fun p => .dma (dsem p.1 p.2)
/-- with the barrier semaphore, all those of the exchange. -/
abbrev csem : Unit ⊕ (Fin 4 × Fin 7) → SemLoc sig := fun | .inl _ => .reg barS | .inr p => osem p
/-- The names of one device's semaphores of the exchange. -/
abbrev CI : Type := Unit ⊕ (Fin 4 × Fin 7)
/-- The semaphore of a device and a name. -/
abbrev kcell (ck : Dev nD × CI) : GSem nD τ sig := ((ck.1 : Thread nD τ), csem ck.2)

/-- The credit of one slot's copy. -/
abbrev N : ℕ := (sq (xgR 0)).view.dmaCredit
/-- A copy gives credit. -/
theorem N_pos : 0 < N := View.dmaCredit_pos _ (by decide)
/-- A slot of the gathered rows gives that credit, -/
theorem credit_xg (k : Fin 8) : (sq (xgR k)).view.dmaCredit = N := rfl
/-- so does a slot of the partial sums to be sent, -/
theorem credit_cb (k : Fin 7) : (sq (cbR k)).view.dmaCredit = N := rfl
/-- and a slot of the returned ones. -/
theorem credit_rs (k : Fin 7) : (sq (rsR k)).view.dmaCredit = N := rfl

/-! ## Contents -/

/-- Device `c`'s blocks of the input and of the two weight matrices, as the pipeline stages them. -/
def xC (c : Dev nD) : (cc0_stg0_0 : Ref sig .tc).ty.Contents (Elt F) :=
  (win0_0.blk (0 : Fin 1)).view.read (Elt F) ((s₀ m ρ).mem ((c : Thread nD τ).loc main_arg0))
/-- Device `c`'s block of the first weights, as staged. -/
def w1C (c : Dev nD) : (cc0_stg1_0 : Ref sig .tc).ty.Contents (Elt F) :=
  (win0_1.blk (0 : Fin 1)).view.read (Elt F) ((s₀ m ρ).mem ((c : Thread nD τ).loc main_arg1))
/-- Device `c`'s block of the second weights, as staged. -/
def w2C (c : Dev nD) : (cc0_stg2_0 : Ref sig .tc).ty.Contents (Elt F) :=
  (win0_2.blk (0 : Fin 1)).view.read (Elt F) ((s₀ m ρ).mem ((c : Thread nD τ).loc main_arg2))

/-- Device `c`'s input block as a slot holds it. -/
def X1 (c : Dev nD) : Slab F := k0_pay3 (xC m ρ c)

/-- The contribution of device `s`'s weights to device `d`'s rows, as `s` stores it to be sent. -/
def T1 (s d : Dev nD) : Slab F := k0_pay5 (k0_pay1 (w1C m ρ s)) (k0_pay2 (w2C m ρ s)) (X1 m ρ d)

/-- What device `c` computes into its result block: its own contribution, then those received, in the order of the slots. -/
def outAt (c : Dev nD) : (cc0_stg3_0 : Ref sig .tc).ty.Contents (Elt F) :=
  k0_pay15 (k0_pay14 (k0_pay13 (k0_pay12 (k0_pay4 (k0_pay1 (w1C m ρ c)) (k0_pay2 (w2C m ρ c)) (X1 m ρ c))
    (T1 m ρ (peer c 0) c)) (T1 m ρ (peer c 1) c) (T1 m ρ (peer c 2) c)) (T1 m ρ (peer c 3) c) (T1 m ρ (peer c 4) c))
    (T1 m ρ (peer c 5) c) (T1 m ρ (peer c 6) c)

/-- The share of the read token the copy of step `i` takes of a device's own input slot. -/
abbrev tok (i : Fin 7) : PosShare TreeShare := Transfers.shareTok fullShare 7 i

/-! ## The schedule -/

/-- The signal of `peer c j` hands `c` that peer's landing slots for `c`'s two copies to it. -/
def barPay (c : Dev nD) (j : Fin 7) : sProp 𝕄 :=
  iprop(free (peer c j) (xgR (rev j).castSucc) ∗ free (peer c j) (rsR (rev j)))

/-- What the landing on entry `k` of semaphore array `q` of device `c` hands over. -/
def xPay (c : Dev nD) (q : Fin 4) (k : Fin 7) : sProp 𝕄 :=
  match q with
  | 0 => holds c (xgR 7) (tok k) (X1 m ρ c)
  | 1 => holds c (xgR k.castSucc) fullShare (X1 m ρ (peer c k))
  | 2 => free c (cbR k)
  | 3 => holds c (rsR k) fullShare (T1 m ρ (peer c k) c)

omit [FloatOps F] in
instance holds_storable (c : Dev nD) (M) (q) (v : Slab F) : BI.Storable (upEmb : UEmb _ 𝕄) (holds c M q v) := by unfold holds owns; infer_instance
omit [FloatOps F] in
instance barPay_storable (c : Dev nD) (j : Fin 7) : BI.Storable (upEmb : UEmb _ 𝕄) (barPay (F := F) c j) := by unfold barPay; infer_instance
instance xPay_storable (c : Dev nD) (q : Fin 4) (k : Fin 7) : BI.Storable (upEmb : UEmb _ 𝕄) (xPay (F := F) m ρ c q k) := by
  unfold xPay
  split <;> infer_instance

/-- One round. A barrier cell has the seven duties of its device's peers, of one unit each; a copy's cell has the duty 0
    of one slot's credit. -/
def Rd : Rounds.Schedule (GSem nD τ sig) (Fin 7) 𝕄 where
  duties g r := if r = 0 ∧ g.1.2 = .tc then (match g.2 with | .reg _ => Finset.univ | .dma s => if 4 ≤ s.val then {0} else ∅) else ∅
  unitless _ := False
  amount g _ _ := match g.2 with | .reg _ => 1 | .dma _ => N
  payload g _ d := match g.2 with | .reg _ => barPay g.1.1 d | .dma s => xPay m ρ g.1.1 (qOf s) (kOf s)
  amount_pos g _ _ _ := by
    rcases g with ⟨t, s | s⟩
    · exact Nat.one_pos
    · exact N_pos

instance Rd_payload_storable (g : GSem nD τ sig) (r : ℕ) (d : Fin 7) :
    BI.Storable (upEmb : UEmb _ 𝕄) ((Rd (F := F) m ρ).payload g r d) := by
  rcases g with ⟨t, s | s⟩
  · exact barPay_storable _ _
  · exact xPay_storable m ρ _ _ _

section Sched
variable (c : Dev nD) (q : Fin 4) (k : Fin 7)

/-- The barrier semaphore has seven duties. -/
theorem duties_bar : (Rd (F := F) m ρ).duties (barCell c) 0 = Finset.univ := by
  dsimp only [Rd]; exact if_pos ⟨rfl, rfl⟩
/-- A copy's semaphore has one duty. -/
theorem duties_x : (Rd (F := F) m ρ).duties (xcell c q k) 0 = {0} := by
  dsimp only [Rd]; rw [if_pos ⟨rfl, rfl⟩]; exact if_pos (four_le_dsem q k)
/-- After the first round there is no duty. -/
theorem duties_later (g : GSem nD τ sig) : ∀ r, 1 ≤ r → (Rd (F := F) m ρ).duties g r = ∅ :=
  fun r hr => by dsimp only [Rd]; exact if_neg fun h => by omega

/-- A signal is one unit. -/
theorem amount_bar (d : Fin 7) : (Rd (F := F) m ρ).amount (barCell c) 0 d = 1 := rfl
/-- A copy's duty is its slot's credit. -/
theorem amount_x (d : Fin 7) : (Rd (F := F) m ρ).amount (xcell c q k) 0 d = N := rfl

/-- The barrier expects seven units. -/
theorem expect_bar : (Rd (F := F) m ρ).expect (barCell c) 0 = 7 := by
  unfold Schedule.expect Schedule.amountOf
  rw [duties_bar, Finset.sum_congr rfl fun d _ => amount_bar m ρ c d, Finset.sum_const, Finset.card_univ, Fintype.card_fin, smul_eq_mul]
/-- A copy's semaphore expects its slot's credit. -/
theorem expect_x : (Rd (F := F) m ρ).expect (xcell c q k) 0 = N := by
  unfold Schedule.expect Schedule.amountOf; rw [duties_x, Finset.sum_singleton, amount_x]

/-- A barrier duty hands over a peer's landing slots. -/
theorem payload_bar (d : Fin 7) : (Rd (F := F) m ρ).payload (barCell c) 0 d = barPay c d := rfl
/-- A copy's duty hands over what its group says. -/
theorem payload_x (d : Fin 7) : (Rd (F := F) m ρ).payload (xcell c q k) 0 d = xPay m ρ c q k := by
  show xPay m ρ c (qOf (dsem q k)) (kOf (dsem q k)) = _
  rw [qOf_dsem, kOf_dsem]

/-- What a wait for the whole barrier gives. -/
theorem rest_bar : bigSep ((Rd (F := F) m ρ).duties (barCell c) 0 \ ∅) (fun d => (Rd (F := F) m ρ).payload (barCell c) 0 d) = bigSep Finset.univ fun d => barPay c d := by
  rw [Finset.sdiff_empty, duties_bar]; rfl
/-- What a wait for a copy gives. -/
theorem rest_x : bigSep ((Rd (F := F) m ρ).duties (xcell c q k) 0 \ ∅) (fun d => (Rd (F := F) m ρ).payload (xcell c q k) 0 d) = xPay m ρ c q k := by
  rw [Finset.sdiff_empty, duties_x, bigSep_singleton, payload_x]

end Sched

/-! ## What each device owes; the levels -/

/-- A list of payments of `n` each, the head of the list the last summand. -/
def owe (f : Fin 7 → GSem nD τ sig) (n : ℕ) : List (Fin 7) → CellTallies nD τ sig Unit
  | [] => 0
  | i :: l => owe f n l + tallyAt (f i) () n

/-- What is owed is owed on a listed semaphore. -/
theorem owe_pos {f : Fin 7 → GSem nD τ sig} {n : ℕ} {l : List (Fin 7)} {g : GSem nD τ sig} {u : Unit} (h : 0 < owe f n l g u) : ∃ i, g = f i := by
  induction l with
  | nil => exact absurd h (Nat.lt_irrefl 0)
  | cons i l ih =>
    by_cases hg : g = f i
    · exact ⟨i, hg⟩
    · refine ih ?_
      unfold owe at h
      rw [Pi.add_apply, Finsupp.add_apply, tallyAt_apply, if_neg (fun h' => hg h'.1)] at h
      exact h

/-- The cells device `c` pays in step `i`: its peer's barrier; its peer's gather landing; its peer's contribution landing. -/
abbrev fB (c : Dev nD) (i : Fin 7) : GSem nD τ sig := barCell (peer c i)
/-- The receive semaphore of step `i`'s copy of rows. -/
abbrev fA (c : Dev nD) (i : Fin 7) : GSem nD τ sig := xcell (peer c i) 1 (rev i)
/-- The receive semaphore of step `i`'s copy of a partial sum. -/
abbrev fR (c : Dev nD) (i : Fin 7) : GSem nD τ sig := xcell (peer c i) 3 (rev i)

/-- All the steps, in order. -/
abbrev all7 : List (Fin 7) := [0, 1, 2, 3, 4, 5, 6]

/-- What device `c` owes when the signals of `lB`, the gather copies of `lA` and the contribution copies of `lR` are still to come. -/
def Ow (c : Dev nD) (lB lA lR : List (Fin 7)) : CellTallies nD τ sig Unit := owe (fR c) N lR + owe (fA c) N lA + owe (fB c) 1 lB

/-- What a device owes at the start: every signal and every copy. -/
def O₀ (c : Dev nD) : CellTallies nD τ sig Unit := Ow c all7 all7 all7

/-- What is owed is owed on a listed barrier or receive semaphore. -/
theorem Ow_pos {c : Dev nD} {lB lA lR : List (Fin 7)} {g : GSem nD τ sig} {u : Unit} (h : 0 < Ow c lB lA lR g u) :
    (∃ i, g = fR c i) ∨ (0 < owe (fA c) N lA g u ∧ ∃ i, g = fA c i) ∨ (0 < owe (fB c) 1 lB g u ∧ ∃ i, g = fB c i) := by
  unfold Ow at h
  rw [Pi.add_apply, Finsupp.add_apply, Pi.add_apply, Finsupp.add_apply] at h
  by_cases h1 : 0 < owe (fR c) N lR g u
  · exact .inl (owe_pos h1)
  by_cases h2 : 0 < owe (fA c) N lA g u
  · exact .inr (.inl ⟨h2, owe_pos h2⟩)
  · exact .inr (.inr (by have h3 : 0 < owe (fB c) 1 lB g u := by omega
                         exact ⟨h3, owe_pos h3⟩))

/-- Each semaphore of a TensorCore has one index. -/
def L (g : GSem nD τ sig) : Finset Unit := if g.1.2 = .tc then {()} else ∅
/-- Barrier cells at 1, gather landings at 2, contribution landings at 3, everything else (staging, sends) at 0. -/
def lv (g : GSem nD τ sig) (_ : Unit) : ℕ := match g.2 with
  | .reg _ => 1
  | .dma s => if 4 ≤ s.val then (if qOf s = 1 then 2 else if qOf s = 3 then 3 else 0) else 0

/-- Other cores have none, -/
theorem L_of_ne (g : GSem nD τ sig) (h : g.1.2 ≠ .tc) : L g = ∅ := if_neg h
/-- and a TensorCore has just the one. -/
theorem L_tc (c : Dev nD) (sm : SemLoc sig) : L ((c : Thread nD τ), sm) = {()} := if_pos rfl

/-- The barrier's level is one. -/
theorem lv_bar (c : Dev nD) : lv (barCell c) () = 1 := rfl
/-- The levels of the copies' semaphores. -/
theorem lv_x (c : Dev nD) (q : Fin 4) (k : Fin 7) : lv (xcell c q k) () = if q = 1 then 2 else if q = 3 then 3 else 0 := by
  refine (if_pos (four_le_dsem q k)).trans ?_
  rw [qOf_dsem]

/-- A device may wait on a cell of its own below everything it still owes. -/
theorem mayWait (c : Dev nD) (sm : SemLoc sig) (n : ℕ) (hn : lv ((c : Thread nD τ), sm) () ≤ n) (lB lA lR : List (Fin 7))
    (hR : n < 3) (hA : lA = [] ∨ n < 2) (hB : lB = [] ∨ n < 1) :
    (levAts L lv : sProp 𝕄) ⊢ MayWait (c : Thread nD τ) sm () (Ow c lB lA lR) := by
  refine MayOwe.of_cut (L := L) (lev := lv) n (fun p hp => by rw [Finset.mem_singleton.mp hp, L_tc]; exact Finset.mem_singleton_self _)
    (fun g u hg => by
      rcases Ow_pos hg with ⟨i, rfl⟩ | ⟨_, i, rfl⟩ | ⟨_, i, rfl⟩ <;> exact Finset.mem_singleton_self _)
    (fun p hp => by rw [Finset.mem_singleton.mp hp]; exact hn)
    (fun g u hg => by
      rcases Ow_pos hg with ⟨i, rfl⟩ | ⟨h, i, rfl⟩ | ⟨h, i, rfl⟩
      · rw [lv_x]; exact hR
      · rw [lv_x]
        rcases hA with rfl | hA
        · exact absurd h (Nat.lt_irrefl 0)
        · exact hA
      · rw [lv_bar]
        rcases hB with rfl | hB
        · exact absurd h (Nat.lt_irrefl 0)
        · exact hB)

/-- With every list empty nothing is owed. -/
theorem Ow_nil (c : Dev nD) : Ow c [] [] [] = 0 := by unfold Ow owe; rw [add_zero, add_zero]

/-- With nothing owed a device may wait anywhere. -/
theorem mayWait_nil (c : Dev nD) (sm : SemLoc sig) : (levAts L lv : sProp 𝕄) ⊢ MayWait (c : Thread nD τ) sm () (Ow c [] [] []) := by
  rw [Ow_nil, MayWait_zero]; iintro -; iempintro

/-- The next signal, split off what is owed; -/
theorem Ow_B (c : Dev nD) (i : Fin 7) (lB lA lR : List (Fin 7)) : Ow c (i :: lB) lA lR = Ow c lB lA lR + tallyAt (fB c i) () 1 := (add_assoc _ _ _).symm
/-- the next copy of rows, split off; -/
theorem Ow_A (c : Dev nD) (i : Fin 7) (lA lR : List (Fin 7)) : Ow c [] (i :: lA) lR = Ow c [] lA lR + tallyAt (fA c i) () N := by
  unfold Ow; show _ + (owe (fA c) N lA + _) + 0 = _ + _ + 0 + _
  rw [add_zero, add_zero, add_assoc]
/-- the next copy of a partial sum, split off. -/
theorem Ow_R (c : Dev nD) (i : Fin 7) (lR : List (Fin 7)) : Ow c [] [] (i :: lR) = Ow c [] [] lR + tallyAt (fR c i) () N := by
  unfold Ow; show owe (fR c) N lR + _ + 0 + 0 = _ + 0 + 0 + _
  rw [add_zero, add_zero, add_zero, add_zero]

end Cert.KRun

end
-- ==== Proof.Steps.lean ====
/- One rule per kind of step of the exchange, each stated once for every peer, slot and buffer: a signal to a peer's
   barrier, the wait on one's own barrier, the copy of a slot to a peer, the wait on a copy's semaphore. -/
module

public import proofs.«01_k».proof.Proof.Protocol

@[expose] public section

set_option maxRecDepth 16384

noncomputable section

namespace Cert.KRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What every device knows: every cell's invariant, at the names `K`, and that every cell has reached its round 0. -/
def records (K : Dev nD × CI → ℕ) : sProp 𝕄 :=
  iprop((bigSep Finset.univ fun ck : Dev nD × CI => cellInv ER (Rd m ρ) (K ck) (kcell ck))
    ∗ bigSep Finset.univ fun ck : Dev nD × CI => reached ER (kcell ck) 0)

instance records_persistent (K : Dev nD × CI → ℕ) : BI.Persistent (records m ρ K) := by unfold records; infer_instance

/-- The same, with the cells' levels. -/
def env (K : Dev nD × CI → ℕ) : sProp 𝕄 := iprop(records m ρ K ∗ levAts L lv)

instance env_persistent (K : Dev nD × CI → ℕ) : BI.Persistent (env m ρ K) := by unfold env; infer_instance

/-- One semaphore's record, out of all of them. -/
theorem inv_at (K : Dev nD × CI → ℕ) (ck : Dev nD × CI) :
    (bigSep Finset.univ fun ck : Dev nD × CI => (cellInv ER (Rd m ρ) (K ck) (kcell ck) : sProp 𝕄)) ⊢ cellInv ER (Rd m ρ) (K ck) (kcell ck) :=
  bigSep_elim (Finset.mem_univ ck)
/-- One semaphore's first round is reached, out of all of them. -/
theorem reached_at (ck : Dev nD × CI) :
    (bigSep Finset.univ fun ck : Dev nD × CI => (reached ER (kcell ck) 0 : sProp 𝕄)) ⊢ reached ER (kcell ck) 0 :=
  bigSep_elim (Finset.mem_univ ck)
/-- The environment has the invariant of every semaphore, -/
theorem env_inv (K : Dev nD × CI → ℕ) (ck : Dev nD × CI) : env m ρ K ⊢ cellInv ER (Rd m ρ) (K ck) (kcell ck) := by
  unfold env records
  iintro ⟨⟨H, -⟩, -⟩
  iapply (inv_at m ρ K ck) $$ H
/-- the start of its first round, -/
theorem env_reached (K : Dev nD × CI → ℕ) (ck : Dev nD × CI) : env m ρ K ⊢ reached ER (kcell ck) 0 := by
  unfold env records
  iintro ⟨⟨-, H⟩, -⟩
  iapply (reached_at (F := F) ck) $$ H
/-- and the levels. -/
theorem env_levels (K : Dev nD × CI → ℕ) : env m ρ K ⊢ levAts L lv := by
  unfold env; iintro ⟨-, H⟩; iexact H

/-- What device `c` owes, whatever waits it has recorded. -/
def ow (c : Dev nD) (O : CellTallies nD τ sig Unit) : sProp 𝕄 := iprop(∃ W, owes (c : Thread nD τ) O W)

/-- Device `c` runs `p` to `Q`. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable (K : Dev nD × CI → ℕ)

/-- The signal of step `i`: to the peer's barrier, with the landing slots the peer will copy into. -/
theorem step_signal {α : Type} {Q : α → sProp 𝕄} (c : Dev nD) (i : Fin 7) (n : Dev nD) (hn : n = peer c i) (lB lA lR : List (Fin 7))
    {k : PUnit → Prog (TpuEff nD τ sig (Elt F) Λ₀ .tc) α} :
    iprop(env m ρ K ∗ ow c (Ow c (i :: lB) lA lR) ∗ dutyTok ER (fB c i) 0 (rev i) ∗ free c (xgR i.castSucc) ∗ free c (rsR i))
      ⊢ iprop((ow c (Ow c lB lA lR) -∗ run c (k ⟨⟩) Q)
          -∗ run c (.op (.semSignal (n : Thread nD τ) barS (1#32).toInt) k) Q) := by
  subst hn
  unfold ow
  iintro ⟨#Henv, ⟨%W, HO⟩, Ht, Hx, Hr⟩ Hk
  iapply (Rounds.wp_signal 𝒱₀ ER (Rd m ρ) (c : Thread nD τ) none (dst := (peer c i : Thread nD τ)) (κ := K (peer c i, .inl ())) (r := 0)
      (d := rev i) (by rw [duties_bar]; exact Finset.mem_univ _) (amount_bar m ρ (peer c i) (rev i)) () (Ow c lB lA lR) (Ow_B c i lB lA lR))
    $$ [HO Ht Hx Hr]
  · isplitr; · iapply (env_inv m ρ K (peer c i, .inl ())) $$ Henv
    isplitl [HO]; · iexact HO
    isplitl [Ht]; · iexact Ht
    isplitl [Hx Hr]
    · rw [payload_bar]; unfold barPay; rw [peer_rev, rev_rev]
      isplitl [Hx] <;> iassumption
    · iapply (env_reached m ρ K (peer c i, .inl ())) $$ Henv
  iintro HO
  iapply Hk
  iexists W; iexact HO

/-- The wait for the seven peers: their landing slots come with it. -/
theorem step_barrier {α : Type} {Q : α → sProp 𝕄} (c : Dev nD) (lR : List (Fin 7)) (lA : List (Fin 7))
    {k : PUnit → Prog (TpuEff nD τ sig (Elt F) Λ₀ .tc) α} :
    iprop(env m ρ K ∗ ow c (Ow c [] lA lR) ∗ cred (tallyAt (barCell c) () 7) ∗ atPos ER (barCell c) 0 ∅ 0)
      ⊢ iprop(((ow c (Ow c [] lA lR) ∗ (bigSep Finset.univ fun d => barPay c d) ∗ semVal (barCell c) 0) -∗ run c (k ⟨⟩) Q)
          -∗ run c (.op (.semWait barS (7#32).toInt) k) Q) := by
  unfold ow
  iintro ⟨#Henv, ⟨%W, HO⟩, Hc, Hat⟩ Hk
  iapply (Rounds.wp_wait_rest_token 𝒱₀ ER (Rd m ρ) (c : Thread nD τ) none (κ := K (c, .inl ()))
      (wpE_semWait_eq 𝒱₀ (c : Thread nD τ) none Set.univ) (Set.mem_univ _) () (O := Ow c [] lA lR) (W := W) (R := 0) (m := 0) (T := ∅)
      (by rw [expect_bar]; decide)) $$ [Hc HO Hat]
  · isplitr; · iapply (env_inv m ρ K (c, .inl ())) $$ Henv
    isplitl [Hc]; · iexact Hc
    isplitl [HO]; · iexact HO
    isplitr
    · iapply (mayWait (F := F) c (.reg barS) 1 (le_refl _) [] lA lR (by decide) (.inr (by decide)) (.inl rfl))
      iapply (env_levels m ρ K) $$ Henv
    iexact Hat
  iintro ⟨HO, Hat, -, Hpay⟩
  ihave Hp := (Entails.of_eq (rest_bar m ρ c)) $$ Hpay
  imod (Rounds.cell_close ER (Rd m ρ) (Set.mem_univ (K (c, .inl ()))) (fun h => h) (R := 0 + 1) (duties_later m ρ (barCell c))) $$ [Hat] with Hz
  · isplitr; · iapply (env_inv m ρ K (c, .inl ())) $$ Henv
    iexact Hat
  iapply Hk
  isplitl [HO]; · iexists _; iexact HO
  isplitl [Hp] <;> iassumption

/-- A slot that is owned with given contents holds them. -/
theorem holds_intro (c : Dev nD) (M : Memref sig .tc .vmem S1x512x512 .bf16) (q : PosShare TreeShare) (v : Slab F)
    (g : M.view.ty.Contents (Elt F)) (hg : M.view.read (Elt F) g = v) :
    (M.view.loc (c : Thread nD τ) ↦[M.view.set]{q} g : sProp 𝕄) ⊢ holds c M q v := by
  unfold holds; rw [owns_unfold]; iintro H; iexists g; isplitr; · ipureintro; exact hg
  iexact H

/-- The copy of step `i` of a slot `M` to the peer's slot `M'`, credited on the device's own send entry and on the peer's landing entry. -/
theorem step_send {α : Type} {Q : α → sProp 𝕄} (c : Dev nD) (i : Fin 7) (n : Dev nD) (hn : n = peer c i) (q₁ q₂ : Fin 4)
    (M M' : Memref sig .tc .vmem S1x512x512 .bf16) (src dst : Memref sig .tc .vmem S512x512 .bf16) (hM : src = sq M) (hM' : dst = sq M')
    (s₁ s₂ : DmaSem sig) (h₁ : s₁ = dsem q₁ i) (h₂ : s₂ = dsem q₂ (rev i)) (hN : (sq M').view.dmaCredit = N)
    (q : PosShare TreeShare) (v : Slab F)
    (hp₁ : holds c M q v ⊢ xPay m ρ c q₁ i) (hp₂ : holds (peer c i) M' fullShare v ⊢ xPay m ρ (peer c i) q₂ (rev i))
    (O O' : CellTallies nD τ sig Unit) (hO : O' = O + tallyAt (xcell (peer c i) q₂ (rev i)) () N)
    {hsc : dst.view.ref.isScScratch = false} {hsrc : src.view.WordExact} {hdst : dst.view.WordExact}
    {hsem : DmaTarget.Typed .vmem (.dma s₂) (.remote (Dev.tc n : Thread nD τ) dst (.dma s₁) hsc)}
    {k : PUnit → Prog (TpuEff nD τ sig (Elt F) Λ₀ .tc) α} :
    iprop(env m ρ K ∗ ow c O' ∗ holds c M q v ∗ free (peer c i) M' ∗ dutyTok ER (xcell c q₁ i) 0 0 ∗ dutyTok ER (xcell (peer c i) q₂ (rev i)) 0 0)
      ⊢ iprop(((cred (tallyAt (xcell c q₁ i) () N) ∗ ow c O) -∗ run c (k ⟨⟩) Q)
          -∗ run c (.op (.enqueueDma src (.remote (Dev.tc n : Thread nD τ) dst (.dma s₁) hsc) (.dma s₂) hsrc hdst hsem) k) Q) := by
  subst hn hM hM' h₁ h₂
  unfold ow
  have hs (M : Memref sig .tc .vmem S1x512x512 .bf16) : (sq M).view.set = M.view.set := View.set_reshape M.view _
  iintro ⟨#Henv, ⟨%W, HO⟩, Hx, ⟨%v', Hd⟩, Ht₁, Ht₂⟩ Hk
  ihave Hx' := (Entails.of_eq (owns_unfold c M q v)) $$ Hx
  icases Hx' with ⟨%g, %hg, Hx⟩
  ihave Hd' := (Entails.of_eq (owns_unfold (peer c i) M' fullShare v')) $$ Hd
  icases Hd' with ⟨%f, %hf, Hd⟩
  iapply (Rounds.wp_send_pointsTo 𝒱₀ ER (Rd m ρ) (c : Thread nD τ) none (c' := (peer c i : Thread nD τ)) (src := sq M) (dst := sq M') (sS := .dma (dsem q₁ i)) (sem := .dma (dsem q₂ (rev i)))
    (κ₁ := K (c, .inr (q₁, i))) (κ₂ := K (peer c i, .inr (q₂, rev i)))
    (r₁ := 0) (r₂ := 0) (d₁ := 0) (d₂ := 0) (q := q) (fs := g) (fd := f)
    (by rw [duties_x]; exact Finset.mem_singleton_self _) (by rw [duties_x]; exact Finset.mem_singleton_self _)
    () () N hN (amount_x m ρ c q₁ i 0) (amount_x m ρ (peer c i) q₂ (rev i) 0) O hO (W := W)
    (by
      rw [payload_x, hs]
      exact (holds_intro c M q v g hg).trans hp₁)
    (by
      rw [payload_x, hs]
      exact (holds_intro (peer c i) M' fullShare v _ ((copy_slot M M' g f).trans hg)).trans hp₂)) $$ [Hx Hd HO Ht₁ Ht₂]
  · isplitr; · iapply (env_inv m ρ K (c, .inr (q₁, i))) $$ Henv
    isplitr; · iapply (env_inv m ρ K (peer c i, .inr (q₂, rev i))) $$ Henv
    isplitl [Hx]; · rw [hs]; iexact Hx
    isplitl [Hd]; · rw [hs]; iexact Hd
    isplitl [HO]; · iexact HO
    isplitl [Ht₁]; · iexact Ht₁
    isplitr; · iapply (env_reached m ρ K (c, .inr (q₁, i))) $$ Henv
    isplitl [Ht₂]; · iexact Ht₂
    iapply (env_reached m ρ K (peer c i, .inr (q₂, rev i))) $$ Henv
  iintro ⟨Hc, HO⟩
  iapply Hk
  isplitl [Hc]; · iexact Hc
  iexists W; iexact HO

/-- The wait on entry `k` of semaphore array `q`: what the landing hands over, and the entry's counter at zero, for good. -/
theorem step_wait {α : Type} {Q : α → sProp 𝕄} (c : Dev nD) (q : Fin 4) (j : Fin 7) (s : DmaSem sig) (hs : s = dsem q j)
    (lA lR : List (Fin 7)) (hl : (levAts L lv : sProp 𝕄) ⊢ MayWait (c : Thread nD τ) (.dma (dsem q j)) () (Ow c [] lA lR))
    {src dst : Memref sig .tc .vmem S512x512 .bf16} (hN : dst.view.dmaCredit = N) {hsrc : src.view.WordExact} {hdst : dst.view.WordExact}
    {k : PUnit → Prog (TpuEff nD τ sig (Elt F) Λ₀ .tc) α} :
    iprop(env m ρ K ∗ ow c (Ow c [] lA lR) ∗ cred (tallyAt (xcell c q j) () N) ∗ atPos ER (xcell c q j) 0 ∅ 0)
      ⊢ iprop(((ow c (Ow c [] lA lR) ∗ xPay m ρ c q j ∗ semVal (xcell c q j) 0) -∗ run c (k ⟨⟩) Q)
          -∗ run c (.op (.waitDma2 s src dst hsrc hdst) k) Q) := by
  subst hs
  unfold ow
  iintro ⟨#Henv, ⟨%W, HO⟩, Hc, Hat⟩ Hk
  iapply (Rounds.wp_wait_rest_token 𝒱₀ ER (Rd m ρ) (c : Thread nD τ) none (κ := K (c, .inr (q, j))) (k' := dst.view.dmaCredit)
      (wpE_waitDma2_eq 𝒱₀ (c : Thread nD τ) none Set.univ) (Set.mem_univ _) () (O := Ow c [] lA lR) (W := W) (R := 0) (m := 0) (T := ∅)
      (by rw [Nat.zero_add, expect_x, hN])) $$ [Hc HO Hat]
  · isplitr; · iapply (env_inv m ρ K (c, .inr (q, j))) $$ Henv
    isplitl [Hc]; · rw [hN]; iexact Hc
    isplitl [HO]; · iexact HO
    isplitr
    · iapply hl
      iapply (env_levels m ρ K) $$ Henv
    iexact Hat
  iintro ⟨HO, Hat, -, Hpay⟩
  ihave Hp := (Entails.of_eq (rest_x m ρ c q j)) $$ Hpay
  imod (Rounds.cell_close ER (Rd m ρ) (Set.mem_univ (K (c, .inr (q, j)))) (fun h => h) (R := 0 + 1) (duties_later m ρ (xcell c q j))) $$ [Hat] with Hz
  · isplitr; · iapply (env_inv m ρ K (c, .inr (q, j))) $$ Henv
    iexact Hat
  iapply Hk
  isplitl [HO]; · iexists _; iexact HO
  isplitl [Hp] <;> iassumption

end Cert.KRun

end
-- ==== Proof.Parts.lean ====
/- The exchange's phases, one theorem per window of the kernel's program text: the parts of the signals, of the gather
   copies, of the local products, of the sums and of the last waits. -/
module

public import proofs.«01_k».proof.Proof.Steps

@[expose] public section

set_option maxRecDepth 16384

noncomputable section

namespace Cert.KRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

/-- What the signal of step `i` takes: the duty's token and the landing slots handed over. -/
abbrev sgR (c : Dev nD) (i : Fin 7) : sProp 𝕄 := iprop(dutyTok ER (fB c i) 0 (rev i) ∗ free c (xgR i.castSucc) ∗ free c (rsR i))
/-- What the gather copy of step `i` takes: a read token of the own input slot, the peer's landing slot, both duties' tokens. -/
abbrev agR (c : Dev nD) (i : Fin 7) : sProp 𝕄 :=
  iprop(holds c (xgR 7) (tok i) (X1 m ρ c) ∗ free (peer c i) (xgR (rev i).castSucc) ∗ dutyTok ER (xcell c 0 i) 0 0 ∗ dutyTok ER (fA c i) 0 0)
/-- The credit of entry `k` of semaphore array `q`, and the place before its round. -/
abbrev ready (c : Dev nD) (q : Fin 4) (k : Fin 7) : sProp 𝕄 := iprop(cred (tallyAt (xcell c q k) () N) ∗ atPos ER (xcell c q k) 0 ∅ 0)

/-- The gather copy of step `i`. -/
theorem step_gather {α : Type} {Q : α → sProp 𝕄} (c : Dev nD) (i : Fin 7) (n : Dev nD) (hn : n = peer c i) (lA lR : List (Fin 7))
    (src dst : Memref sig .tc .vmem S512x512 .bf16) (hM : src = sq (xgR 7)) (hM' : dst = sq (xgR (rev i).castSucc))
    (s₁ s₂ : DmaSem sig) (h₁ : s₁ = dsem 0 i) (h₂ : s₂ = dsem 1 (rev i))
    {hsc : dst.view.ref.isScScratch = false} {hsrc : src.view.WordExact} {hdst : dst.view.WordExact}
    {hsem : DmaTarget.Typed .vmem (.dma s₂) (.remote (Dev.tc n : Thread nD τ) dst (.dma s₁) hsc)}
    {k : PUnit → Prog (TpuEff nD τ sig (Elt F) Λ₀ .tc) α} :
    iprop(env m ρ K ∗ ow c (Ow c [] (i :: lA) lR) ∗ agR m ρ c i)
      ⊢ iprop(((cred (tallyAt (xcell c 0 i) () N) ∗ ow c (Ow c [] lA lR)) -∗ run c (k ⟨⟩) Q)
          -∗ run c (.op (.enqueueDma src (.remote (Dev.tc n : Thread nD τ) dst (.dma s₁) hsc) (.dma s₂) hsrc hdst hsem) k) Q) := by
  unfold agR
  exact step_send m ρ K c i n hn 0 1 (xgR 7) (xgR (rev i).castSucc) src dst hM hM' s₁ s₂ h₁ h₂ (credit_xg _) (tok i) (X1 m ρ c)
    (BI.Entails.refl _) (by unfold xPay; rw [peer_rev]) _ _ (Ow_A c i lA lR)

/-- What the reduction copy of step `k` takes besides the contribution: the peer's landing slot and both duties' tokens. -/
abbrev rdR (c : Dev nD) (k : Fin 7) : sProp 𝕄 :=
  iprop(free (peer c k) (rsR (rev k)) ∗ dutyTok ER (xcell c 2 k) 0 0 ∗ dutyTok ER (fR c k) 0 0)
/-- The contribution for the peer of step `k` in its slot. -/
abbrev contr (c : Dev nD) (k : Fin 7) : sProp 𝕄 := holds c (cbR k) fullShare (T1 m ρ c (peer c k))
/-- The peer's input block in its slot, the slot's entry closed. -/
def gotX (c : Dev nD) (k : Fin 7) : sProp 𝕄 := iprop(holds c (xgR k.castSucc) fullShare (X1 m ρ (peer c k)) ∗ semVal (xcell c 1 k) 0)
/-- The peer's contribution in its slot, the slot's entry closed. -/
def gotT (c : Dev nD) (k : Fin 7) : sProp 𝕄 := iprop(holds c (rsR k) fullShare (T1 m ρ (peer c k) c) ∗ semVal (xcell c 3 k) 0)
/-- A read token of the own input slot come back, the sending entry closed. -/
def backX (c : Dev nD) (k : Fin 7) : sProp 𝕄 := iprop(holds c (xgR 7) (tok k) (X1 m ρ c) ∗ semVal (xcell c 0 k) 0)
/-- A contribution's slot come back, the sending entry closed. -/
def backC (c : Dev nD) (k : Fin 7) : sProp 𝕄 := iprop(free c (cbR k) ∗ semVal (xcell c 2 k) 0)

omit [FloatOps F] in
/-- A slot that holds something is free. -/
theorem free_intro (c : Dev nD) (M : Memref sig .tc .vmem S1x512x512 .bf16) (v : Slab F) : (holds c M fullShare v : sProp 𝕄) ⊢ free c M := by
  unfold free; iintro H; iexists v; iexact H

/-- The reduction copy of step `i`. -/
theorem step_reduce {α : Type} {Q : α → sProp 𝕄} (c : Dev nD) (i : Fin 7) (n : Dev nD) (hn : n = peer c i) (lR : List (Fin 7))
    (src dst : Memref sig .tc .vmem S512x512 .bf16) (hM : src = sq (cbR i)) (hM' : dst = sq (rsR (rev i)))
    (s₁ s₂ : DmaSem sig) (h₁ : s₁ = dsem 2 i) (h₂ : s₂ = dsem 3 (rev i))
    {hsc : dst.view.ref.isScScratch = false} {hsrc : src.view.WordExact} {hdst : dst.view.WordExact}
    {hsem : DmaTarget.Typed .vmem (.dma s₂) (.remote (Dev.tc n : Thread nD τ) dst (.dma s₁) hsc)}
    {k : PUnit → Prog (TpuEff nD τ sig (Elt F) Λ₀ .tc) α} :
    iprop(env m ρ K ∗ ow c (Ow c [] [] (i :: lR)) ∗ contr m ρ c i ∗ rdR c i)
      ⊢ iprop(((cred (tallyAt (xcell c 2 i) () N) ∗ ow c (Ow c [] [] lR)) -∗ run c (k ⟨⟩) Q)
          -∗ run c (.op (.enqueueDma src (.remote (Dev.tc n : Thread nD τ) dst (.dma s₁) hsc) (.dma s₂) hsrc hdst hsem) k) Q) := by
  unfold rdR contr
  exact step_send m ρ K c i n hn 2 3 (cbR i) (rsR (rev i)) src dst hM hM' s₁ s₂ h₁ h₂ (credit_rs _) fullShare (T1 m ρ c (peer c i))
    (by unfold xPay; exact free_intro c _ _) (by unfold xPay; rw [peer_rev]) _ _ (Ow_R c i lR)

/-- The wait for the peer's input block. -/
theorem step_landed {α : Type} {Q : α → sProp 𝕄} (c : Dev nD) (j : Fin 7) (lR : List (Fin 7)) (s : DmaSem sig) (hs : s = dsem 1 j)
    {src : Memref sig .tc .vmem S512x512 .bf16} (dst : Memref sig .tc .vmem S512x512 .bf16) (hM : dst = sq (xgR j.castSucc)) {hsrc : src.view.WordExact} {hdst : dst.view.WordExact}
    {k : PUnit → Prog (TpuEff nD τ sig (Elt F) Λ₀ .tc) α} :
    iprop(env m ρ K ∗ ow c (Ow c [] [] lR) ∗ ready c 1 j)
      ⊢ iprop(((ow c (Ow c [] [] lR) ∗ gotX m ρ c j) -∗ run c (k ⟨⟩) Q)
          -∗ run c (.op (.waitDma2 s src dst hsrc hdst) k) Q) :=
  step_wait m ρ K c 1 j s hs [] lR (mayWait c _ 2 (by rw [lv_x]; decide) [] [] lR (by decide) (.inl rfl) (.inl rfl)) (by subst hM; exact credit_xg _)

/-- The wait for the peer's contribution. -/
theorem step_summand {α : Type} {Q : α → sProp 𝕄} (c : Dev nD) (j : Fin 7) (s : DmaSem sig) (hs : s = dsem 3 j)
    {src : Memref sig .tc .vmem S512x512 .bf16} (dst : Memref sig .tc .vmem S512x512 .bf16) (hM : dst = sq (rsR j)) {hsrc : src.view.WordExact} {hdst : dst.view.WordExact}
    {k : PUnit → Prog (TpuEff nD τ sig (Elt F) Λ₀ .tc) α} :
    iprop(env m ρ K ∗ ow c (Ow c [] [] []) ∗ ready c 3 j)
      ⊢ iprop(((ow c (Ow c [] [] []) ∗ gotT m ρ c j) -∗ run c (k ⟨⟩) Q)
          -∗ run c (.op (.waitDma2 s src dst hsrc hdst) k) Q) :=
  step_wait m ρ K c 3 j s hs [] [] (mayWait_nil c _) (by subst hM; exact credit_rs _)

/-- The wait for the own gather copy of step `j`. -/
theorem step_backX {α : Type} {Q : α → sProp 𝕄} (c : Dev nD) (j : Fin 7) (s : DmaSem sig) (hs : s = dsem 0 j)
    {src : Memref sig .tc .vmem S512x512 .bf16} (dst : Memref sig .tc .vmem S512x512 .bf16) (hM : dst = sq (xgR 7)) {hsrc : src.view.WordExact} {hdst : dst.view.WordExact}
    {k : PUnit → Prog (TpuEff nD τ sig (Elt F) Λ₀ .tc) α} :
    iprop(env m ρ K ∗ ow c (Ow c [] [] []) ∗ ready c 0 j)
      ⊢ iprop(((ow c (Ow c [] [] []) ∗ backX m ρ c j) -∗ run c (k ⟨⟩) Q)
          -∗ run c (.op (.waitDma2 s src dst hsrc hdst) k) Q) :=
  step_wait m ρ K c 0 j s hs [] [] (mayWait_nil c _) (by subst hM; exact credit_xg _)

/-- The wait for the own reduction copy of step `j`. -/
theorem step_backC {α : Type} {Q : α → sProp 𝕄} (c : Dev nD) (j : Fin 7) (s : DmaSem sig) (hs : s = dsem 2 j)
    {src : Memref sig .tc .vmem S512x512 .bf16} (dst : Memref sig .tc .vmem S512x512 .bf16) (hM : dst = sq (cbR j)) {hsrc : src.view.WordExact} {hdst : dst.view.WordExact}
    {k : PUnit → Prog (TpuEff nD τ sig (Elt F) Λ₀ .tc) α} :
    iprop(env m ρ K ∗ ow c (Ow c [] [] []) ∗ ready c 2 j)
      ⊢ iprop(((ow c (Ow c [] [] []) ∗ backC c j) -∗ run c (k ⟨⟩) Q)
          -∗ run c (.op (.waitDma2 s src dst hsrc hdst) k) Q) :=
  step_wait m ρ K c 2 j s hs [] [] (mayWait_nil c _) (by subst hM; exact credit_cb _)

/-- A staging window's buffer holding `X`. -/
abbrev pts (c : Dev nD) (b : Ref sig .tc) (X : b.ty.Contents (Elt F)) : sProp 𝕄 := (((c : Thread nD τ).loc b) ↦{fullShare} X)

/-- The offsets of a whole block are zero. -/
theorem z2 : (![0, 0] : Fin 2 → Nat) = fun _ => 0 := by decide
omit [FloatOps F] in
/-- A load of the whole staged rows gives the buffer's contents. -/
theorem read_stg0 (f : (cc0_stg0_0 : Ref sig .tc).ty.Contents (Elt F)) :
    (Memref.whole cc0_stg0_0 : Memref sig .tc .vmem S512x512 .bf16).view.readAt (Elt F) (Rect.unit (s := S512x512) ![0, 0] S512x512.size inb_S512x512_S512x512_0_0).toLoadRect f = f :=
  Memref.readAt_unit_zero (Elt F) cc0_stg0_0 z2 _ f
omit [FloatOps F] in
/-- A load of the whole staged first weights gives the buffer's contents. -/
theorem read_stg1 (f : (cc0_stg1_0 : Ref sig .tc).ty.Contents (Elt F)) :
    (Memref.whole cc0_stg1_0 : Memref sig .tc .vmem S512x2048 .bf16).view.readAt (Elt F) (Rect.unit (s := S512x2048) ![0, 0] S512x2048.size inb_S512x2048_S512x2048_0_0).toLoadRect f = f :=
  Memref.readAt_unit_zero (Elt F) cc0_stg1_0 z2 _ f
omit [FloatOps F] in
/-- A load of the whole staged second weights gives the buffer's contents. -/
theorem read_stg2 (f : (cc0_stg2_0 : Ref sig .tc).ty.Contents (Elt F)) :
    (Memref.whole cc0_stg2_0 : Memref sig .tc .vmem S2048x512 .bf16).view.readAt (Elt F) (Rect.unit (s := S2048x512) ![0, 0] S2048x512.size inb_S2048x512_S2048x512_0_0).toLoadRect f = f :=
  Memref.readAt_unit_zero (Elt F) cc0_stg2_0 z2 _ f
omit [FloatOps F] in
/-- A store over the whole result block leaves what was stored. -/
theorem write_stg3 (f w : (cc0_stg3_0 : Ref sig .tc).ty.Contents (Elt F)) :
    ((Memref.whole cc0_stg3_0 : Memref sig .tc .vmem S512x512 .f32).access (Rect.unit (s := S512x512) ![0, 0] S512x512.size inb_S512x512_S512x512_0_0)).write (Elt F) f w Finset.univ = w :=
  Memref.write_access_unit_zero_univ (Elt F) cc0_stg3_0 z2 _ f w

/-- The signals of steps 0 to 4. -/
theorem part1 {α : Type} {Q : α → sProp 𝕄} (c : Dev nD) (lA lR : List (Fin 7)) {k : (Σ' (_ : Dev nD) (_ : BitVec 32) (_ : Sems sig S_) (_ : BitVec 32), BitVec 32) → Prog (TpuEff nD τ sig (Elt F) Λ₀ .tc) α} :
    iprop(env m ρ K ∗ ow c (Ow c [0, 1, 2, 3, 4, 5, 6] lA lR) ∗ sgR c 0 ∗ sgR c 1 ∗ sgR c 2 ∗ sgR c 3 ∗ sgR c 4)
      ⊢ iprop((∀ v2 v24 v8, (ow c (Ow c [5, 6] lA lR)) -∗ run c (k ⟨c, v2, SemArray.scalar (sig.barrier 0 rfl), v24, v8⟩) Q)
          -∗ run c (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6  >>= k) Q) := by
  simp only [k0_part1_eq_skeleton]; unfold k0_part1_skel
  simp only [semSignalWord, semWaitWord, Prog.lift, Prog.bind_op, Prog.bind_ret, Prog.pure_eq_ret, wp_deviceId]
  iintro ⟨#He, HO, H0, H1, H2, H3, H4⟩ Hk
  iapply (step_signal m ρ K c 0 _ (dev1_eq c) [1, 2, 3, 4, 5, 6] lA lR) $$ [HO H0]
  · isplitr; · iexact He
    isplitl [HO]; · iexact HO
    iexact H0
  iintro HO
  iapply (step_signal m ρ K c 1 _ (dev2_eq c) [2, 3, 4, 5, 6] lA lR) $$ [HO H1]
  · isplitr; · iexact He
    isplitl [HO]; · iexact HO
    iexact H1
  iintro HO
  iapply (step_signal m ρ K c 2 _ (dev3_eq c) [3, 4, 5, 6] lA lR) $$ [HO H2]
  · isplitr; · iexact He
    isplitl [HO]; · iexact HO
    iexact H2
  iintro HO
  iapply (step_signal m ρ K c 3 _ (dev4_eq c) [4, 5, 6] lA lR) $$ [HO H3]
  · isplitr; · iexact He
    isplitl [HO]; · iexact HO
    iexact H3
  iintro HO
  iapply (step_signal m ρ K c 4 _ (dev5_eq c) [5, 6] lA lR) $$ [HO H4]
  · isplitr; · iexact He
    isplitl [HO]; · iexact HO
    iexact H4
  iintro HO
  iapply Hk
  iexact HO

/-- The signals of steps 5 and 6, the wait for every peer's signal, the loads of the blocks, and the own input into its slot. -/
theorem part2 {α : Type} {Q : α → sProp 𝕄} (c : Dev nD) (v2 v24 v8 : BitVec 32) (lA lR : List (Fin 7)) {k : (Σ' (_ : FVec F S512x2048 .bf16), FVec F S2048x512 .bf16) → Prog (TpuEff nD τ sig (Elt F) Λ₀ .tc) α} :
    iprop(env m ρ K ∗ ow c (Ow c [5, 6] lA lR) ∗ sgR c 5 ∗ sgR c 6 ∗ (cred (tallyAt (barCell c) () 7) ∗ atPos ER (barCell c) 0 ∅ 0) ∗ pts c cc0_stg1_0 (w1C m ρ c) ∗ pts c cc0_stg2_0 (w2C m ρ c) ∗ pts c cc0_stg0_0 (xC m ρ c) ∗ free c (xgR 7))
      ⊢ iprop(((ow c (Ow c [] lA lR) ∗ (bigSep Finset.univ fun d => barPay c d) ∗ semVal (barCell c) 0 ∗ pts c cc0_stg1_0 (w1C m ρ c) ∗ pts c cc0_stg2_0 (w2C m ρ c) ∗ pts c cc0_stg0_0 (xC m ρ c) ∗ holds c (xgR 7) fullShare (X1 m ρ c)) -∗ run c (k ⟨k0_pay1 (w1C m ρ c), k0_pay2 (w2C m ρ c)⟩) Q)
          -∗ run c (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 (SemArray.scalar (sig.barrier 0 rfl)) v24 v8 >>= k) Q) := by
  simp only [k0_part2_eq_skeleton]; unfold k0_part2_skel
  simp only [semSignalWord, semWaitWord, Prog.lift, Prog.bind_op, Prog.bind_ret, Prog.pure_eq_ret, wp_deviceId]
  iintro ⟨#He, HO, H5, H6, Hb, B1, B2, B0, H7⟩ Hk
  iapply (step_signal m ρ K c 5 _ (dev6_eq c) [6] lA lR) $$ [HO H5]
  · isplitr; · iexact He
    isplitl [HO]; · iexact HO
    iexact H5
  iintro HO
  iapply (step_signal m ρ K c 6 _ (dev7_eq c) [] lA lR) $$ [HO H6]
  · isplitr; · iexact He
    isplitl [HO]; · iexact HO
    iexact H6
  iintro HO
  iapply (step_barrier m ρ K c lR lA) $$ [HO Hb]
  · isplitr; · iexact He
    isplitl [HO]; · iexact HO
    iexact Hb
  iintro ⟨HO, Hp, Hz⟩
  iapply (wp_load 𝒱₀ (c : Thread nD τ) none Set.univ (m := (Memref.whole cc0_stg1_0)) (Finset.subset_univ _)) $$ B1; iintro B1
  rw [read_stg1]
  iapply (wp_load 𝒱₀ (c : Thread nD τ) none Set.univ (m := (Memref.whole cc0_stg2_0)) (Finset.subset_univ _)) $$ B2; iintro B2
  rw [read_stg2]
  iapply (wp_load 𝒱₀ (c : Thread nD τ) none Set.univ (m := (Memref.whole cc0_stg0_0)) (Finset.subset_univ _)) $$ B0; iintro B0
  rw [read_stg0]
  icases H7 with ⟨%v7, H7⟩
  iapply (load_part c xgM (r8 7) (fun _ => rfl) fullShare v7) $$ H7; iintro H7
  iapply (store_part c xgM (r8 7) (fun _ => rfl) v7 (X1 m ρ c)) $$ H7; iintro H7
  iapply Hk
  isplitl [HO]; · iexact HO
  isplitl [Hp]; · iexact Hp
  isplitl [Hz]; · iexact Hz
  isplitl [B1]; · iexact B1
  isplitl [B2]; · iexact B2
  isplitl [B0]; · iexact B0
  iexact H7

/-- The gather copies of steps 0, 1, 2. -/
theorem part3 {α : Type} {Q : α → sProp 𝕄} (c : Dev nD) (v2 : BitVec 32) (lR : List (Fin 7)) {k : BitVec 32 → Prog (TpuEff nD τ sig (Elt F) Λ₀ .tc) α} :
    iprop(env m ρ K ∗ ow c (Ow c [] [0, 1, 2, 3, 4, 5, 6] lR) ∗ agR m ρ c 0 ∗ agR m ρ c 1 ∗ agR m ρ c 2)
      ⊢ iprop((∀ v, (ow c (Ow c [] [3, 4, 5, 6] lR) ∗ cred (tallyAt (xcell c 0 0) () N) ∗ cred (tallyAt (xcell c 0 1) () N) ∗ cred (tallyAt (xcell c 0 2) () N)) -∗ run c (k v) Q)
          -∗ run c (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 >>= k) Q) := by
  simp only [k0_part3_eq_skeleton]; unfold k0_part3_skel
  simp only [semSignalWord, semWaitWord, Prog.lift, Prog.bind_op, Prog.bind_ret, Prog.pure_eq_ret, wp_deviceId]
  iintro ⟨#He, HO, H0, H1, H2⟩ Hk
  iapply (step_gather m ρ K c 0 _ (dev8_eq c) [1, 2, 3, 4, 5, 6] lR _ _ rfl rfl _ _ rfl rfl) $$ [HO H0]
  · isplitr; · iexact He
    isplitl [HO]; · iexact HO
    iexact H0
  iintro ⟨C0, HO⟩
  iapply (step_gather m ρ K c 1 _ (dev9_eq c) [2, 3, 4, 5, 6] lR _ _ rfl rfl _ _ rfl rfl) $$ [HO H1]
  · isplitr; · iexact He
    isplitl [HO]; · iexact HO
    iexact H1
  iintro ⟨C1, HO⟩
  iapply (step_gather m ρ K c 2 _ (dev10_eq c) [3, 4, 5, 6] lR _ _ rfl rfl _ _ rfl rfl) $$ [HO H2]
  · isplitr; · iexact He
    isplitl [HO]; · iexact HO
    iexact H2
  iintro ⟨C2, HO⟩
  iapply Hk
  isplitl [HO]; · iexact HO
  isplitl [C0]; · iexact C0
  isplitl [C1]; · iexact C1
  iexact C2

/-- The gather copies of steps 3, 4. -/
theorem part4 {α : Type} {Q : α → sProp 𝕄} (c : Dev nD) (v2 v78 : BitVec 32) (lR : List (Fin 7)) {k : PUnit → Prog (TpuEff nD τ sig (Elt F) Λ₀ .tc) α} :
    iprop(env m ρ K ∗ ow c (Ow c [] [3, 4, 5, 6] lR) ∗ agR m ρ c 3 ∗ agR m ρ c 4)
      ⊢ iprop(((ow c (Ow c [] [5, 6] lR) ∗ cred (tallyAt (xcell c 0 3) () N) ∗ cred (tallyAt (xcell c 0 4) () N)) -∗ run c (k ⟨⟩) Q)
          -∗ run c (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v78 >>= k) Q) := by
  simp only [k0_part4_eq_skeleton]; unfold k0_part4_skel
  simp only [semSignalWord, semWaitWord, Prog.lift, Prog.bind_op, Prog.bind_ret, Prog.pure_eq_ret, wp_deviceId]
  iintro ⟨#He, HO, H3, H4⟩ Hk
  iapply (step_gather m ρ K c 3 _ (dev11_eq c) [4, 5, 6] lR _ _ rfl rfl _ _ rfl rfl) $$ [HO H3]
  · isplitr; · iexact He
    isplitl [HO]; · iexact HO
    iexact H3
  iintro ⟨C3, HO⟩
  iapply (step_gather m ρ K c 4 _ (dev12_eq c) [5, 6] lR _ _ rfl rfl _ _ rfl rfl) $$ [HO H4]
  · isplitr; · iexact He
    isplitl [HO]; · iexact HO
    iexact H4
  iintro ⟨C4, HO⟩
  iapply Hk
  isplitl [HO]; · iexact HO
  isplitl [C3]; · iexact C3
  iexact C4

/-- The gather copies of steps 5, 6, and the own contribution. -/
theorem part5 {α : Type} {Q : α → sProp 𝕄} (c : Dev nD) (v2 : BitVec 32) (q : PosShare TreeShare) (lR : List (Fin 7)) {k : FVec F S512x512 .f32 → Prog (TpuEff nD τ sig (Elt F) Λ₀ .tc) α} :
    iprop(env m ρ K ∗ ow c (Ow c [] [5, 6] lR) ∗ agR m ρ c 5 ∗ agR m ρ c 6 ∗ holds c (xgR 7) q (X1 m ρ c))
      ⊢ iprop(((ow c (Ow c [] [] lR) ∗ cred (tallyAt (xcell c 0 5) () N) ∗ cred (tallyAt (xcell c 0 6) () N) ∗ holds c (xgR 7) q (X1 m ρ c)) -∗ run c (k (k0_pay4 (k0_pay1 (w1C m ρ c)) (k0_pay2 (w2C m ρ c)) (X1 m ρ c))) Q)
          -∗ run c (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 (k0_pay1 (w1C m ρ c)) (k0_pay2 (w2C m ρ c)) >>= k) Q) := by
  simp only [k0_part5_eq_skeleton]; unfold k0_part5_skel
  simp only [semSignalWord, semWaitWord, Prog.lift, Prog.bind_op, Prog.bind_ret, Prog.pure_eq_ret, wp_deviceId]
  iintro ⟨#He, HO, H5, H6, H7⟩ Hk
  iapply (step_gather m ρ K c 5 _ (dev13_eq c) [6] lR _ _ rfl rfl _ _ rfl rfl) $$ [HO H5]
  · isplitr; · iexact He
    isplitl [HO]; · iexact HO
    iexact H5
  iintro ⟨C5, HO⟩
  iapply (step_gather m ρ K c 6 _ (dev14_eq c) [] lR _ _ rfl rfl _ _ rfl rfl) $$ [HO H6]
  · isplitr; · iexact He
    isplitl [HO]; · iexact HO
    iexact H6
  iintro ⟨C6, HO⟩
  iapply (load_part c xgM (r8 7) (fun _ => rfl) q (X1 m ρ c)) $$ H7; iintro H7
  iapply Hk
  isplitl [HO]; · iexact HO
  isplitl [C5]; · iexact C5
  isplitl [C6]; · iexact C6
  iexact H7

/-- The product of step 0: the wait, the contribution, its copy. -/
theorem part6 {α : Type} {Q : α → sProp 𝕄} (c : Dev nD) (v2 : BitVec 32) {k : PUnit → Prog (TpuEff nD τ sig (Elt F) Λ₀ .tc) α} :
    iprop(env m ρ K ∗ ow c (Ow c [] [] [0, 1, 2, 3, 4, 5, 6]) ∗ ready c 1 0 ∗ free c (cbR 0) ∗ rdR c 0)
      ⊢ iprop(((ow c (Ow c [] [] [1, 2, 3, 4, 5, 6]) ∗ holds c (xgR (Fin.castSucc 0)) fullShare (X1 m ρ (peer c 0)) ∗ semVal (xcell c 1 0) 0 ∗ cred (tallyAt (xcell c 2 0) () N)) -∗ run c (k ⟨⟩) Q)
          -∗ run c (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 (k0_pay1 (w1C m ρ c)) (k0_pay2 (w2C m ρ c)) >>= k) Q) := by
  simp only [k0_part6_eq_skeleton]; unfold k0_part6_skel
  simp only [semSignalWord, semWaitWord, Prog.lift, Prog.bind_op, Prog.bind_ret, Prog.pure_eq_ret, wp_deviceId]
  iintro ⟨#He, HO, W0, F0, R0⟩ Hk
  iapply (step_landed m ρ K c 0 [0, 1, 2, 3, 4, 5, 6] _ rfl _ rfl) $$ [HO W0]
  · isplitr; · iexact He
    isplitl [HO]; · iexact HO
    iexact W0
  iintro ⟨HO, W0⟩
  unfold gotX
  icases W0 with ⟨W0, Z0⟩
  iapply (load_part c xgM (r8 (Fin.castSucc 0)) (fun _ => rfl) fullShare (X1 m ρ (peer c 0))) $$ W0; iintro W0
  icases F0 with ⟨%f0, F0⟩
  iapply (load_part c cbM (r7 0) (fun _ => rfl) fullShare f0) $$ F0; iintro F0
  iapply (store_part c cbM (r7 0) (fun _ => rfl) f0 (T1 m ρ c (peer c 0))) $$ F0; iintro F0
  iapply (step_reduce m ρ K c 0 _ (dev15_eq c) [1, 2, 3, 4, 5, 6] _ _ rfl rfl _ _ rfl rfl) $$ [HO F0 R0]
  · isplitr; · iexact He
    isplitl [HO]; · iexact HO
    isplitl [F0]; · iexact F0
    iexact R0
  iintro ⟨C0, HO⟩
  iapply Hk
  isplitl [HO]; · iexact HO
  isplitl [W0]; · iexact W0
  isplitl [Z0]; · iexact Z0
  iexact C0

/-- The product of step 1: the wait, the contribution, its copy. -/
theorem part7 {α : Type} {Q : α → sProp 𝕄} (c : Dev nD) (v2 : BitVec 32) {k : PUnit → Prog (TpuEff nD τ sig (Elt F) Λ₀ .tc) α} :
    iprop(env m ρ K ∗ ow c (Ow c [] [] [1, 2, 3, 4, 5, 6]) ∗ ready c 1 1 ∗ free c (cbR 1) ∗ rdR c 1)
      ⊢ iprop(((ow c (Ow c [] [] [2, 3, 4, 5, 6]) ∗ holds c (xgR (Fin.castSucc 1)) fullShare (X1 m ρ (peer c 1)) ∗ semVal (xcell c 1 1) 0 ∗ cred (tallyAt (xcell c 2 1) () N)) -∗ run c (k ⟨⟩) Q)
          -∗ run c (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 (k0_pay1 (w1C m ρ c)) (k0_pay2 (w2C m ρ c)) >>= k) Q) := by
  simp only [k0_part7_eq_skeleton]; unfold k0_part7_skel
  simp only [semSignalWord, semWaitWord, Prog.lift, Prog.bind_op, Prog.bind_ret, Prog.pure_eq_ret, wp_deviceId]
  iintro ⟨#He, HO, W1, F1, R1⟩ Hk
  iapply (step_landed m ρ K c 1 [1, 2, 3, 4, 5, 6] _ rfl _ rfl) $$ [HO W1]
  · isplitr; · iexact He
    isplitl [HO]; · iexact HO
    iexact W1
  iintro ⟨HO, W1⟩
  unfold gotX
  icases W1 with ⟨W1, Z1⟩
  iapply (load_part c xgM (r8 (Fin.castSucc 1)) (fun _ => rfl) fullShare (X1 m ρ (peer c 1))) $$ W1; iintro W1
  icases F1 with ⟨%f1, F1⟩
  iapply (load_part c cbM (r7 1) (fun _ => rfl) fullShare f1) $$ F1; iintro F1
  iapply (store_part c cbM (r7 1) (fun _ => rfl) f1 (T1 m ρ c (peer c 1))) $$ F1; iintro F1
  iapply (step_reduce m ρ K c 1 _ (dev16_eq c) [2, 3, 4, 5, 6] _ _ rfl rfl _ _ rfl rfl) $$ [HO F1 R1]
  · isplitr; · iexact He
    isplitl [HO]; · iexact HO
    isplitl [F1]; · iexact F1
    iexact R1
  iintro ⟨C1, HO⟩
  iapply Hk
  isplitl [HO]; · iexact HO
  isplitl [W1]; · iexact W1
  isplitl [Z1]; · iexact Z1
  iexact C1

/-- The contribution of step 2. -/
theorem part8 {α : Type} {Q : α → sProp 𝕄} (c : Dev nD) (v2 : BitVec 32) {k : PUnit → Prog (TpuEff nD τ sig (Elt F) Λ₀ .tc) α} :
    iprop(env m ρ K ∗ ow c (Ow c [] [] [2, 3, 4, 5, 6]) ∗ ready c 1 2 ∗ free c (cbR 2))
      ⊢ iprop(((ow c (Ow c [] [] [2, 3, 4, 5, 6]) ∗ holds c (xgR (Fin.castSucc 2)) fullShare (X1 m ρ (peer c 2)) ∗ semVal (xcell c 1 2) 0 ∗ contr m ρ c 2) -∗ run c (k ⟨⟩) Q)
          -∗ run c (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 (k0_pay1 (w1C m ρ c)) (k0_pay2 (w2C m ρ c)) >>= k) Q) := by
  simp only [k0_part8_eq_skeleton]; unfold k0_part8_skel
  simp only [semSignalWord, semWaitWord, Prog.lift, Prog.bind_op, Prog.bind_ret, Prog.pure_eq_ret, wp_deviceId]
  iintro ⟨#He, HO, W2, F2⟩ Hk
  iapply (step_landed m ρ K c 2 [2, 3, 4, 5, 6] _ rfl _ rfl) $$ [HO W2]
  · isplitr; · iexact He
    isplitl [HO]; · iexact HO
    iexact W2
  iintro ⟨HO, W2⟩
  unfold gotX
  icases W2 with ⟨W2, Z2⟩
  iapply (load_part c xgM (r8 (Fin.castSucc 2)) (fun _ => rfl) fullShare (X1 m ρ (peer c 2))) $$ W2; iintro W2
  icases F2 with ⟨%f2, F2⟩
  iapply (load_part c cbM (r7 2) (fun _ => rfl) fullShare f2) $$ F2; iintro F2
  iapply (store_part c cbM (r7 2) (fun _ => rfl) f2 (T1 m ρ c (peer c 2))) $$ F2; iintro F2
  iapply Hk
  isplitl [HO]; · iexact HO
  isplitl [W2]; · iexact W2
  isplitl [Z2]; · iexact Z2
  iexact F2

/-- The copy of step 2 and the contribution of step 3. -/
theorem part9 {α : Type} {Q : α → sProp 𝕄} (c : Dev nD) (v2 : BitVec 32) {k : PUnit → Prog (TpuEff nD τ sig (Elt F) Λ₀ .tc) α} :
    iprop(env m ρ K ∗ ow c (Ow c [] [] [2, 3, 4, 5, 6]) ∗ contr m ρ c 2 ∗ rdR c 2 ∗ ready c 1 3 ∗ free c (cbR 3))
      ⊢ iprop(((ow c (Ow c [] [] [3, 4, 5, 6]) ∗ cred (tallyAt (xcell c 2 2) () N) ∗ holds c (xgR (Fin.castSucc 3)) fullShare (X1 m ρ (peer c 3)) ∗ semVal (xcell c 1 3) 0 ∗ contr m ρ c 3) -∗ run c (k ⟨⟩) Q)
          -∗ run c (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 (k0_pay1 (w1C m ρ c)) (k0_pay2 (w2C m ρ c)) >>= k) Q) := by
  simp only [k0_part9_eq_skeleton]; unfold k0_part9_skel
  simp only [semSignalWord, semWaitWord, Prog.lift, Prog.bind_op, Prog.bind_ret, Prog.pure_eq_ret, wp_deviceId]
  iintro ⟨#He, HO, F2, R2, W3, F3⟩ Hk
  iapply (step_reduce m ρ K c 2 _ (dev17_eq c) [3, 4, 5, 6] _ _ rfl rfl _ _ rfl rfl) $$ [HO F2 R2]
  · isplitr; · iexact He
    isplitl [HO]; · iexact HO
    isplitl [F2]; · iexact F2
    iexact R2
  iintro ⟨C2, HO⟩
  iapply (step_landed m ρ K c 3 [3, 4, 5, 6] _ rfl _ rfl) $$ [HO W3]
  · isplitr; · iexact He
    isplitl [HO]; · iexact HO
    iexact W3
  iintro ⟨HO, W3⟩
  unfold gotX
  icases W3 with ⟨W3, Z3⟩
  iapply (load_part c xgM (r8 (Fin.castSucc 3)) (fun _ => rfl) fullShare (X1 m ρ (peer c 3))) $$ W3; iintro W3
  icases F3 with ⟨%f3, F3⟩
  iapply (load_part c cbM (r7 3) (fun _ => rfl) fullShare f3) $$ F3; iintro F3
  iapply (store_part c cbM (r7 3) (fun _ => rfl) f3 (T1 m ρ c (peer c 3))) $$ F3; iintro F3
  iapply Hk
  isplitl [HO]; · iexact HO
  isplitl [C2]; · iexact C2
  isplitl [W3]; · iexact W3
  isplitl [Z3]; · iexact Z3
  iexact F3

/-- The copy of step 3 and the contribution of step 4. -/
theorem part10 {α : Type} {Q : α → sProp 𝕄} (c : Dev nD) (v2 : BitVec 32) {k : (Σ' (_ : BitVec 32), BitVec 32) → Prog (TpuEff nD τ sig (Elt F) Λ₀ .tc) α} :
    iprop(env m ρ K ∗ ow c (Ow c [] [] [3, 4, 5, 6]) ∗ contr m ρ c 3 ∗ rdR c 3 ∗ ready c 1 4 ∗ free c (cbR 4))
      ⊢ iprop((∀ v v', (ow c (Ow c [] [] [4, 5, 6]) ∗ cred (tallyAt (xcell c 2 3) () N) ∗ holds c (xgR (Fin.castSucc 4)) fullShare (X1 m ρ (peer c 4)) ∗ semVal (xcell c 1 4) 0 ∗ contr m ρ c 4) -∗ run c (k ⟨v, v'⟩) Q)
          -∗ run c (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 (k0_pay1 (w1C m ρ c)) (k0_pay2 (w2C m ρ c)) >>= k) Q) := by
  simp only [k0_part10_eq_skeleton]; unfold k0_part10_skel
  simp only [semSignalWord, semWaitWord, Prog.lift, Prog.bind_op, Prog.bind_ret, Prog.pure_eq_ret, wp_deviceId]
  iintro ⟨#He, HO, F3, R3, W4, F4⟩ Hk
  iapply (step_reduce m ρ K c 3 _ (dev18_eq c) [4, 5, 6] _ _ rfl rfl _ _ rfl rfl) $$ [HO F3 R3]
  · isplitr; · iexact He
    isplitl [HO]; · iexact HO
    isplitl [F3]; · iexact F3
    iexact R3
  iintro ⟨C3, HO⟩
  iapply (step_landed m ρ K c 4 [4, 5, 6] _ rfl _ rfl) $$ [HO W4]
  · isplitr; · iexact He
    isplitl [HO]; · iexact HO
    iexact W4
  iintro ⟨HO, W4⟩
  unfold gotX
  icases W4 with ⟨W4, Z4⟩
  iapply (load_part c xgM (r8 (Fin.castSucc 4)) (fun _ => rfl) fullShare (X1 m ρ (peer c 4))) $$ W4; iintro W4
  icases F4 with ⟨%f4, F4⟩
  iapply (load_part c cbM (r7 4) (fun _ => rfl) fullShare f4) $$ F4; iintro F4
  iapply (store_part c cbM (r7 4) (fun _ => rfl) f4 (T1 m ρ c (peer c 4))) $$ F4; iintro F4
  iapply Hk
  isplitl [HO]; · iexact HO
  isplitl [C3]; · iexact C3
  isplitl [W4]; · iexact W4
  isplitl [Z4]; · iexact Z4
  iexact F4

/-- The copy of step 4 and the contribution of step 5. -/
theorem part11 {α : Type} {Q : α → sProp 𝕄} (c : Dev nD) (v2 u u' : BitVec 32) {k : (Σ' (_ : BitVec 32), BitVec 32) → Prog (TpuEff nD τ sig (Elt F) Λ₀ .tc) α} :
    iprop(env m ρ K ∗ ow c (Ow c [] [] [4, 5, 6]) ∗ contr m ρ c 4 ∗ rdR c 4 ∗ ready c 1 5 ∗ free c (cbR 5))
      ⊢ iprop((∀ v v', (ow c (Ow c [] [] [5, 6]) ∗ cred (tallyAt (xcell c 2 4) () N) ∗ holds c (xgR (Fin.castSucc 5)) fullShare (X1 m ρ (peer c 5)) ∗ semVal (xcell c 1 5) 0 ∗ contr m ρ c 5) -∗ run c (k ⟨v, v'⟩) Q)
          -∗ run c (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 (k0_pay1 (w1C m ρ c)) (k0_pay2 (w2C m ρ c)) u u' >>= k) Q) := by
  simp only [k0_part11_eq_skeleton]; unfold k0_part11_skel
  simp only [semSignalWord, semWaitWord, Prog.lift, Prog.bind_op, Prog.bind_ret, Prog.pure_eq_ret, wp_deviceId]
  iintro ⟨#He, HO, F4, R4, W5, F5⟩ Hk
  iapply (step_reduce m ρ K c 4 _ (dev19_eq c) [5, 6] _ _ rfl rfl _ _ rfl rfl) $$ [HO F4 R4]
  · isplitr; · iexact He
    isplitl [HO]; · iexact HO
    isplitl [F4]; · iexact F4
    iexact R4
  iintro ⟨C4, HO⟩
  iapply (step_landed m ρ K c 5 [5, 6] _ rfl _ rfl) $$ [HO W5]
  · isplitr; · iexact He
    isplitl [HO]; · iexact HO
    iexact W5
  iintro ⟨HO, W5⟩
  unfold gotX
  icases W5 with ⟨W5, Z5⟩
  iapply (load_part c xgM (r8 (Fin.castSucc 5)) (fun _ => rfl) fullShare (X1 m ρ (peer c 5))) $$ W5; iintro W5
  icases F5 with ⟨%f5, F5⟩
  iapply (load_part c cbM (r7 5) (fun _ => rfl) fullShare f5) $$ F5; iintro F5
  iapply (store_part c cbM (r7 5) (fun _ => rfl) f5 (T1 m ρ c (peer c 5))) $$ F5; iintro F5
  iapply Hk
  isplitl [HO]; · iexact HO
  isplitl [C4]; · iexact C4
  isplitl [W5]; · iexact W5
  isplitl [Z5]; · iexact Z5
  iexact F5

/-- The copy of step 5 and the contribution of step 6. -/
theorem part12 {α : Type} {Q : α → sProp 𝕄} (c : Dev nD) (v2 u u' : BitVec 32) {k : FVec F S1x512x512 .bf16 → Prog (TpuEff nD τ sig (Elt F) Λ₀ .tc) α} :
    iprop(env m ρ K ∗ ow c (Ow c [] [] [5, 6]) ∗ contr m ρ c 5 ∗ rdR c 5 ∗ ready c 1 6 ∗ free c (cbR 6))
      ⊢ iprop(((ow c (Ow c [] [] [6]) ∗ cred (tallyAt (xcell c 2 5) () N) ∗ holds c (xgR (Fin.castSucc 6)) fullShare (X1 m ρ (peer c 6)) ∗ semVal (xcell c 1 6) 0 ∗ free c (cbR 6)) -∗ run c (k (T1 m ρ c (peer c 6))) Q)
          -∗ run c (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 (k0_pay1 (w1C m ρ c)) (k0_pay2 (w2C m ρ c)) u u' >>= k) Q) := by
  simp only [k0_part12_eq_skeleton]; unfold k0_part12_skel
  simp only [semSignalWord, semWaitWord, Prog.lift, Prog.bind_op, Prog.bind_ret, Prog.pure_eq_ret, wp_deviceId]
  iintro ⟨#He, HO, F5, R5, W6, F6⟩ Hk
  iapply (step_reduce m ρ K c 5 _ (dev20_eq c) [6] _ _ rfl rfl _ _ rfl rfl) $$ [HO F5 R5]
  · isplitr; · iexact He
    isplitl [HO]; · iexact HO
    isplitl [F5]; · iexact F5
    iexact R5
  iintro ⟨C5, HO⟩
  iapply (step_landed m ρ K c 6 [6] _ rfl _ rfl) $$ [HO W6]
  · isplitr; · iexact He
    isplitl [HO]; · iexact HO
    iexact W6
  iintro ⟨HO, W6⟩
  unfold gotX
  icases W6 with ⟨W6, Z6⟩
  iapply (load_part c xgM (r8 (Fin.castSucc 6)) (fun _ => rfl) fullShare (X1 m ρ (peer c 6))) $$ W6; iintro W6
  icases F6 with ⟨%f6, F6⟩
  iapply (load_part c cbM (r7 6) (fun _ => rfl) fullShare f6) $$ F6; iintro F6
  ihave F6 := (free_intro c (cbR 6) f6) $$ F6
  iapply Hk
  isplitl [HO]; · iexact HO
  isplitl [C5]; · iexact C5
  isplitl [W6]; · iexact W6
  isplitl [Z6]; · iexact Z6
  iexact F6

/-- The copy of step 6, and the first sum. -/
theorem part13 {α : Type} {Q : α → sProp 𝕄} (c : Dev nD) (v2 : BitVec 32) (v131 : FVec F S512x512 .f32) {k : (Σ' (_ : FVec F S512x512 .f32), BitVec 32) → Prog (TpuEff nD τ sig (Elt F) Λ₀ .tc) α} :
    iprop(env m ρ K ∗ ow c (Ow c [] [] [6]) ∗ free c (cbR 6) ∗ rdR c 6 ∗ ready c 3 0)
      ⊢ iprop((∀ v, (ow c (Ow c [] [] []) ∗ cred (tallyAt (xcell c 2 6) () N) ∗ holds c (rsR 0) fullShare (T1 m ρ (peer c 0) c) ∗ semVal (xcell c 3 0) 0) -∗ run c (k ⟨k0_pay12 v131 (T1 m ρ (peer c 0) c), v⟩) Q)
          -∗ run c (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v131 (T1 m ρ c (peer c 6)) >>= k) Q) := by
  simp only [k0_part13_eq_skeleton]; unfold k0_part13_skel
  simp only [semSignalWord, semWaitWord, Prog.lift, Prog.bind_op, Prog.bind_ret, Prog.pure_eq_ret, wp_deviceId]
  iintro ⟨#He, HO, F6, R6, W0⟩ Hk
  icases F6 with ⟨%f6, F6⟩
  iapply (store_part c cbM (r7 6) (fun _ => rfl) f6 (T1 m ρ c (peer c 6))) $$ F6; iintro F6
  iapply (step_reduce m ρ K c 6 _ (dev21_eq c) [] _ _ rfl rfl _ _ rfl rfl) $$ [HO F6 R6]
  · isplitr; · iexact He
    isplitl [HO]; · iexact HO
    isplitl [F6]; · iexact F6
    iexact R6
  iintro ⟨C6, HO⟩
  iapply (step_summand m ρ K c 0 _ rfl _ rfl) $$ [HO W0]
  · isplitr; · iexact He
    isplitl [HO]; · iexact HO
    iexact W0
  iintro ⟨HO, W0⟩
  unfold gotT
  icases W0 with ⟨W0, Z0⟩
  iapply (load_part c rsM (r7 0) (fun _ => rfl) fullShare (T1 m ρ (peer c 0) c)) $$ W0; iintro W0
  iapply Hk
  isplitl [HO]; · iexact HO
  isplitl [C6]; · iexact C6
  isplitl [W0]; · iexact W0
  iexact Z0

/-- The sums of steps 1 and 2. -/
theorem part14 {α : Type} {Q : α → sProp 𝕄} (c : Dev nD) (v2 u : BitVec 32) (v367 : FVec F S512x512 .f32) {k : FVec F S512x512 .f32 → Prog (TpuEff nD τ sig (Elt F) Λ₀ .tc) α} :
    iprop(env m ρ K ∗ ow c (Ow c [] [] []) ∗ ready c 3 1 ∗ ready c 3 2)
      ⊢ iprop(((ow c (Ow c [] [] []) ∗ holds c (rsR 1) fullShare (T1 m ρ (peer c 1) c) ∗ semVal (xcell c 3 1) 0 ∗ holds c (rsR 2) fullShare (T1 m ρ (peer c 2) c) ∗ semVal (xcell c 3 2) 0) -∗ run c (k (k0_pay13 v367 (T1 m ρ (peer c 1) c) (T1 m ρ (peer c 2) c))) Q)
          -∗ run c (k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v367 u >>= k) Q) := by
  simp only [k0_part14_eq_skeleton]; unfold k0_part14_skel
  simp only [semSignalWord, semWaitWord, Prog.lift, Prog.bind_op, Prog.bind_ret, Prog.pure_eq_ret, wp_deviceId]
  iintro ⟨#He, HO, W1, W2⟩ Hk
  iapply (step_summand m ρ K c 1 _ rfl _ rfl) $$ [HO W1]
  · isplitr; · iexact He
    isplitl [HO]; · iexact HO
    iexact W1
  iintro ⟨HO, W1⟩
  unfold gotT
  icases W1 with ⟨W1, Z1⟩
  iapply (load_part c rsM (r7 1) (fun _ => rfl) fullShare (T1 m ρ (peer c 1) c)) $$ W1; iintro W1
  iapply (step_summand m ρ K c 2 _ rfl _ rfl) $$ [HO W2]
  · isplitr; · iexact He
    isplitl [HO]; · iexact HO
    iexact W2
  iintro ⟨HO, W2⟩
  unfold gotT
  icases W2 with ⟨W2, Z2⟩
  iapply (load_part c rsM (r7 2) (fun _ => rfl) fullShare (T1 m ρ (peer c 2) c)) $$ W2; iintro W2
  iapply Hk
  isplitl [HO]; · iexact HO
  isplitl [W1]; · iexact W1
  isplitl [Z1]; · iexact Z1
  isplitl [W2]; · iexact W2
  iexact Z2

/-- The sums of steps 3 and 4. -/
theorem part15 {α : Type} {Q : α → sProp 𝕄} (c : Dev nD) (v2 : BitVec 32) (v391 : FVec F S512x512 .f32) {k : FVec F S512x512 .f32 → Prog (TpuEff nD τ sig (Elt F) Λ₀ .tc) α} :
    iprop(env m ρ K ∗ ow c (Ow c [] [] []) ∗ ready c 3 3 ∗ ready c 3 4 ∗ ready c 3 5)
      ⊢ iprop(((ow c (Ow c [] [] []) ∗ holds c (rsR 3) fullShare (T1 m ρ (peer c 3) c) ∗ semVal (xcell c 3 3) 0 ∗ holds c (rsR 4) fullShare (T1 m ρ (peer c 4) c) ∗ semVal (xcell c 3 4) 0 ∗ holds c (rsR 5) fullShare (T1 m ρ (peer c 5) c) ∗ semVal (xcell c 3 5) 0) -∗ run c (k (k0_pay14 v391 (T1 m ρ (peer c 3) c) (T1 m ρ (peer c 4) c))) Q)
          -∗ run c (k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v391 >>= k) Q) := by
  simp only [k0_part15_eq_skeleton]; unfold k0_part15_skel
  simp only [semSignalWord, semWaitWord, Prog.lift, Prog.bind_op, Prog.bind_ret, Prog.pure_eq_ret, wp_deviceId]
  iintro ⟨#He, HO, W3, W4, W5⟩ Hk
  iapply (step_summand m ρ K c 3 _ rfl _ rfl) $$ [HO W3]
  · isplitr; · iexact He
    isplitl [HO]; · iexact HO
    iexact W3
  iintro ⟨HO, W3⟩
  unfold gotT
  icases W3 with ⟨W3, Z3⟩
  iapply (load_part c rsM (r7 3) (fun _ => rfl) fullShare (T1 m ρ (peer c 3) c)) $$ W3; iintro W3
  iapply (step_summand m ρ K c 4 _ rfl _ rfl) $$ [HO W4]
  · isplitr; · iexact He
    isplitl [HO]; · iexact HO
    iexact W4
  iintro ⟨HO, W4⟩
  unfold gotT
  icases W4 with ⟨W4, Z4⟩
  iapply (load_part c rsM (r7 4) (fun _ => rfl) fullShare (T1 m ρ (peer c 4) c)) $$ W4; iintro W4
  iapply (step_summand m ρ K c 5 _ rfl _ rfl) $$ [HO W5]
  · isplitr; · iexact He
    isplitl [HO]; · iexact HO
    iexact W5
  iintro ⟨HO, W5⟩
  unfold gotT
  icases W5 with ⟨W5, Z5⟩
  iapply Hk
  isplitl [HO]; · iexact HO
  isplitl [W3]; · iexact W3
  isplitl [Z3]; · iexact Z3
  isplitl [W4]; · iexact W4
  isplitl [Z4]; · iexact Z4
  isplitl [W5]; · iexact W5
  iexact Z5

/-- The sums of steps 5 and 6 into the result block. -/
theorem part16 {α : Type} {Q : α → sProp 𝕄} (c : Dev nD) (v2 : BitVec 32) (v415 : FVec F S512x512 .f32) (f : (cc0_stg3_0 : Ref sig .tc).ty.Contents (Elt F)) {k : PUnit → Prog (TpuEff nD τ sig (Elt F) Λ₀ .tc) α} :
    iprop(env m ρ K ∗ ow c (Ow c [] [] []) ∗ holds c (rsR 5) fullShare (T1 m ρ (peer c 5) c) ∗ ready c 3 6 ∗ pts c cc0_stg3_0 f ∗ ready c 0 0)
      ⊢ iprop(((ow c (Ow c [] [] []) ∗ holds c (rsR 5) fullShare (T1 m ρ (peer c 5) c) ∗ holds c (rsR 6) fullShare (T1 m ρ (peer c 6) c) ∗ semVal (xcell c 3 6) 0 ∗ pts c cc0_stg3_0 (k0_pay15 v415 (T1 m ρ (peer c 5) c) (T1 m ρ (peer c 6) c)) ∗ backX m ρ c 0) -∗ run c (k ⟨⟩) Q)
          -∗ run c (k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v415 >>= k) Q) := by
  simp only [k0_part16_eq_skeleton]; unfold k0_part16_skel
  simp only [semSignalWord, semWaitWord, Prog.lift, Prog.bind_op, Prog.bind_ret, Prog.pure_eq_ret, wp_deviceId]
  iintro ⟨#He, HO, W5, W6, B3, A00⟩ Hk
  iapply (load_part c rsM (r7 5) (fun _ => rfl) fullShare (T1 m ρ (peer c 5) c)) $$ W5; iintro W5
  iapply (step_summand m ρ K c 6 _ rfl _ rfl) $$ [HO W6]
  · isplitr; · iexact He
    isplitl [HO]; · iexact HO
    iexact W6
  iintro ⟨HO, W6⟩
  unfold gotT
  icases W6 with ⟨W6, Z6⟩
  iapply (load_part c rsM (r7 6) (fun _ => rfl) fullShare (T1 m ρ (peer c 6) c)) $$ W6; iintro W6
  iapply (wp_load 𝒱₀ (c : Thread nD τ) none Set.univ (m := (Memref.whole cc0_stg3_0)) (Finset.subset_univ _)) $$ B3; iintro B3
  iapply (wp_store 𝒱₀ (c : Thread nD τ) none Set.univ (m := (Memref.whole cc0_stg3_0)) (r := (Rect.unit (s := S512x512) ![0, 0] S512x512.size inb_S512x512_S512x512_0_0)) (Mk := Finset.univ) (Finset.subset_univ _)) $$ B3; iintro B3
  rw [write_stg3]
  iapply (step_backX m ρ K c 0 _ rfl _ rfl) $$ [HO A00]
  · isplitr; · iexact He
    isplitl [HO]; · iexact HO
    iexact A00
  iintro ⟨HO, A00⟩
  iapply Hk
  isplitl [HO]; · iexact HO
  isplitl [W5]; · iexact W5
  isplitl [W6]; · iexact W6
  isplitl [Z6]; · iexact Z6
  isplitl [B3]; · iexact B3
  iexact A00

/-- The waits for the gather copies of steps 1 to 4. -/
theorem part17 {α : Type} {Q : α → sProp 𝕄} (c : Dev nD) {k : PUnit → Prog (TpuEff nD τ sig (Elt F) Λ₀ .tc) α} :
    iprop(env m ρ K ∗ ow c (Ow c [] [] []) ∗ ready c 0 1 ∗ ready c 0 2 ∗ ready c 0 3 ∗ ready c 0 4)
      ⊢ iprop(((ow c (Ow c [] [] []) ∗ backX m ρ c 1 ∗ backX m ρ c 2 ∗ backX m ρ c 3 ∗ backX m ρ c 4) -∗ run c (k ⟨⟩) Q)
          -∗ run c (k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6  >>= k) Q) := by
  simp only [k0_part17_eq_skeleton]; unfold k0_part17_skel
  simp only [semSignalWord, semWaitWord, Prog.lift, Prog.bind_op, Prog.bind_ret, Prog.pure_eq_ret, wp_deviceId]
  iintro ⟨#He, HO, A01, A02, A03, A04⟩ Hk
  iapply (step_backX m ρ K c 1 _ rfl _ rfl) $$ [HO A01]
  · isplitr; · iexact He
    isplitl [HO]; · iexact HO
    iexact A01
  iintro ⟨HO, A01⟩
  iapply (step_backX m ρ K c 2 _ rfl _ rfl) $$ [HO A02]
  · isplitr; · iexact He
    isplitl [HO]; · iexact HO
    iexact A02
  iintro ⟨HO, A02⟩
  iapply (step_backX m ρ K c 3 _ rfl _ rfl) $$ [HO A03]
  · isplitr; · iexact He
    isplitl [HO]; · iexact HO
    iexact A03
  iintro ⟨HO, A03⟩
  iapply (step_backX m ρ K c 4 _ rfl _ rfl) $$ [HO A04]
  · isplitr; · iexact He
    isplitl [HO]; · iexact HO
    iexact A04
  iintro ⟨HO, A04⟩
  iapply Hk
  isplitl [HO]; · iexact HO
  isplitl [A01]; · iexact A01
  isplitl [A02]; · iexact A02
  isplitl [A03]; · iexact A03
  iexact A04

/-- The waits for the gather copies of steps 5, 6 and the reduction copies of steps 0, 1. -/
theorem part18 {α : Type} {Q : α → sProp 𝕄} (c : Dev nD) {k : PUnit → Prog (TpuEff nD τ sig (Elt F) Λ₀ .tc) α} :
    iprop(env m ρ K ∗ ow c (Ow c [] [] []) ∗ ready c 0 5 ∗ ready c 0 6 ∗ ready c 2 0 ∗ ready c 2 1)
      ⊢ iprop(((ow c (Ow c [] [] []) ∗ backX m ρ c 5 ∗ backX m ρ c 6 ∗ backC c 0 ∗ backC c 1) -∗ run c (k ⟨⟩) Q)
          -∗ run c (k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6  >>= k) Q) := by
  simp only [k0_part18_eq_skeleton]; unfold k0_part18_skel
  simp only [semSignalWord, semWaitWord, Prog.lift, Prog.bind_op, Prog.bind_ret, Prog.pure_eq_ret, wp_deviceId]
  iintro ⟨#He, HO, A05, A06, A20, A21⟩ Hk
  iapply (step_backX m ρ K c 5 _ rfl _ rfl) $$ [HO A05]
  · isplitr; · iexact He
    isplitl [HO]; · iexact HO
    iexact A05
  iintro ⟨HO, A05⟩
  iapply (step_backX m ρ K c 6 _ rfl _ rfl) $$ [HO A06]
  · isplitr; · iexact He
    isplitl [HO]; · iexact HO
    iexact A06
  iintro ⟨HO, A06⟩
  iapply (step_backC m ρ K c 0 _ rfl _ rfl) $$ [HO A20]
  · isplitr; · iexact He
    isplitl [HO]; · iexact HO
    iexact A20
  iintro ⟨HO, A20⟩
  iapply (step_backC m ρ K c 1 _ rfl _ rfl) $$ [HO A21]
  · isplitr; · iexact He
    isplitl [HO]; · iexact HO
    iexact A21
  iintro ⟨HO, A21⟩
  iapply Hk
  isplitl [HO]; · iexact HO
  isplitl [A05]; · iexact A05
  isplitl [A06]; · iexact A06
  isplitl [A20]; · iexact A20
  iexact A21

/-- The waits for the reduction copies of steps 2 to 4. -/
theorem part19 {α : Type} {Q : α → sProp 𝕄} (c : Dev nD) {k : PUnit → Prog (TpuEff nD τ sig (Elt F) Λ₀ .tc) α} :
    iprop(env m ρ K ∗ ow c (Ow c [] [] []) ∗ ready c 2 2 ∗ ready c 2 3 ∗ ready c 2 4)
      ⊢ iprop(((ow c (Ow c [] [] []) ∗ backC c 2 ∗ backC c 3 ∗ backC c 4) -∗ run c (k ⟨⟩) Q)
          -∗ run c (k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6  >>= k) Q) := by
  simp only [k0_part19_eq_skeleton]; unfold k0_part19_skel
  simp only [semSignalWord, semWaitWord, Prog.lift, Prog.bind_op, Prog.bind_ret, Prog.pure_eq_ret, wp_deviceId]
  iintro ⟨#He, HO, A22, A23, A24⟩ Hk
  iapply (step_backC m ρ K c 2 _ rfl _ rfl) $$ [HO A22]
  · isplitr; · iexact He
    isplitl [HO]; · iexact HO
    iexact A22
  iintro ⟨HO, A22⟩
  iapply (step_backC m ρ K c 3 _ rfl _ rfl) $$ [HO A23]
  · isplitr; · iexact He
    isplitl [HO]; · iexact HO
    iexact A23
  iintro ⟨HO, A23⟩
  iapply (step_backC m ρ K c 4 _ rfl _ rfl) $$ [HO A24]
  · isplitr; · iexact He
    isplitl [HO]; · iexact HO
    iexact A24
  iintro ⟨HO, A24⟩
  iapply Hk
  isplitl [HO]; · iexact HO
  isplitl [A22]; · iexact A22
  isplitl [A23]; · iexact A23
  iexact A24

end Cert.KRun

end
-- ==== Proof.Body.lean ====
/- The body of the kernel on one device, from its parts. -/
module

public import proofs.«01_k».proof.Proof.Parts

@[expose] public section

set_option maxRecDepth 16384

noncomputable section

namespace Cert.KRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- A family over the seven steps, one by one. -/
theorem bigSep_seven (P : Fin 7 → sProp 𝕄) : bigSep Finset.univ P = iprop(P 0 ∗ P 1 ∗ P 2 ∗ P 3 ∗ P 4 ∗ P 5 ∗ P 6) := by
  rw [show (Finset.univ : Finset (Fin 7)) = {0, 1, 2, 3, 4, 5, 6} from rfl]
  rw [bigSep_insert (by decide), bigSep_insert (by decide), bigSep_insert (by decide), bigSep_insert (by decide), bigSep_insert (by decide), bigSep_insert (by decide), bigSep_singleton]
  rfl

/-- What device `c` starts step `i` with: what its signal takes, the tokens of its two copies, the places before the rounds of the
    step's four cells, the credit of the two that its peers credit, and its slot for a contribution. -/
def stepStart (c : Dev nD) (i : Fin 7) : sProp 𝕄 :=
  iprop(sgR c i ∗ (dutyTok ER (xcell c 0 i) 0 0 ∗ dutyTok ER (fA c i) 0 0) ∗ (dutyTok ER (xcell c 2 i) 0 0 ∗ dutyTok ER (fR c i) 0 0)
    ∗ atPos ER (xcell c 0 i) 0 ∅ 0 ∗ atPos ER (xcell c 2 i) 0 ∅ 0 ∗ ready c 1 i ∗ ready c 3 i ∗ free c (cbR i))
/-- What it ends the step with: every slot and the four cells closed. -/
def stepEnd (c : Dev nD) (i : Fin 7) : sProp 𝕄 :=
  iprop(backX m ρ c i ∗ backC c i ∗ (holds c (xgR i.castSucc) fullShare (X1 m ρ (peer c i)) ∗ semVal (xcell c 1 i) 0)
    ∗ (holds c (rsR i) fullShare (T1 m ρ (peer c i) c) ∗ semVal (xcell c 3 i) 0))

/-- What device `c` starts with, -/
def bodyStart (c : Dev nD) : sProp 𝕄 :=
  iprop((bigSep Finset.univ fun i => stepStart c i) ∗ free c (xgR 7) ∗ (cred (tallyAt (barCell c) () 7) ∗ atPos ER (barCell c) 0 ∅ 0))
/-- and what it ends with. -/
def bodyEnd (c : Dev nD) : sProp 𝕄 :=
  iprop((bigSep Finset.univ fun i => stepEnd m ρ c i) ∗ holds c (xgR 7) (Transfers.shareDrop fullShare 7) (X1 m ρ c) ∗ semVal (barCell c) 0)

set_option maxHeartbeats 4000000 in
/-- Device `c` runs the body: from the start, owing every signal and both rounds of copies, to the end, owing nothing. -/
theorem sound_body {Q : PUnit → sProp 𝕄} (K : Dev nD × CI → ℕ) (c : Dev nD) (f : (cc0_stg3_0 : Ref sig .tc).ty.Contents (Elt F)) :
    iprop(env m ρ K ∗ ow c (Ow c all7 all7 all7) ∗ bodyStart c ∗ pts c cc0_stg0_0 (xC m ρ c) ∗ pts c cc0_stg1_0 (w1C m ρ c) ∗ pts c cc0_stg2_0 (w2C m ρ c) ∗ pts c cc0_stg3_0 f)
      ⊢ iprop(((ow c (Ow c [] [] []) ∗ bodyEnd m ρ c ∗ pts c cc0_stg0_0 (xC m ρ c) ∗ pts c cc0_stg1_0 (w1C m ρ c) ∗ pts c cc0_stg2_0 (w2C m ρ c) ∗ pts c cc0_stg3_0 (outAt m ρ c)) -∗ Q ⟨⟩)
          -∗ run c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Q) := by
  simp only [cc0_body_eq_skeleton]; unfold cc0_body_skel
  simp only [semSignalWord, semWaitWord, Prog.lift, Prog.bind_op, Prog.bind_ret, Prog.pure_eq_ret, wp_deviceId]
  unfold bodyStart all7
  iintro ⟨#He, HO, ⟨Hs, H7, Hb⟩, B0, B1, B2, B3⟩ Hk
  ihave Hs := (Entails.of_eq (bigSep_seven _)) $$ Hs
  icases Hs with ⟨Hs0, Hs1, Hs2, Hs3, Hs4, Hs5, Hs6⟩
  unfold stepStart
  icases Hs0 with ⟨S0, G0, R0, P00, P20, W10, W30, F0⟩
  icases Hs1 with ⟨S1, G1, R1, P01, P21, W11, W31, F1⟩
  icases Hs2 with ⟨S2, G2, R2, P02, P22, W12, W32, F2⟩
  icases Hs3 with ⟨S3, G3, R3, P03, P23, W13, W33, F3⟩
  icases Hs4 with ⟨S4, G4, R4, P04, P24, W14, W34, F4⟩
  icases Hs5 with ⟨S5, G5, R5, P05, P25, W15, W35, F5⟩
  icases Hs6 with ⟨S6, G6, R6, P06, P26, W16, W36, F6⟩
  iapply (part1 m ρ K c [0, 1, 2, 3, 4, 5, 6] [0, 1, 2, 3, 4, 5, 6]) $$ [HO S0 S1 S2 S3 S4]
  · isplitr; · iexact He
    isplitl [HO]
    · iexact HO
    isplitl [S0]
    · iexact S0
    isplitl [S1]
    · iexact S1
    isplitl [S2]
    · iexact S2
    isplitl [S3]
    · iexact S3
    iexact S4
  iintro %v2 %v24 %v8
  iintro HO
  dsimp only
  iapply (part2 m ρ K c _ _ _ [0, 1, 2, 3, 4, 5, 6] [0, 1, 2, 3, 4, 5, 6]) $$ [HO S5 S6 Hb B1 B2 B0 H7]
  · isplitr; · iexact He
    isplitl [HO]
    · iexact HO
    isplitl [S5]
    · iexact S5
    isplitl [S6]
    · iexact S6
    isplitl [Hb]
    · iexact Hb
    isplitl [B1]
    · iexact B1
    isplitl [B2]
    · iexact B2
    isplitl [B0]
    · iexact B0
    iexact H7
  iintro ⟨HO, Hp, Hz, B1, B2, B0, H7⟩
  dsimp only
  ihave Hp := (Entails.of_eq (bigSep_seven _)) $$ Hp
  icases Hp with ⟨Hp0, Hp1, Hp2, Hp3, Hp4, Hp5, Hp6⟩
  unfold barPay
  icases Hp0 with ⟨X0, Y0⟩
  icases Hp1 with ⟨X1, Y1⟩
  icases Hp2 with ⟨X2, Y2⟩
  icases Hp3 with ⟨X3, Y3⟩
  icases Hp4 with ⟨X4, Y4⟩
  icases Hp5 with ⟨X5, Y5⟩
  icases Hp6 with ⟨X6, Y6⟩
  ihave H7 := (cut_toks c xgM fullShare (r8 7) (fun _ => rfl) (X1 m ρ c)) $$ H7
  icases H7 with ⟨H7, Ht⟩
  ihave Ht := (Entails.of_eq (bigSep_seven _)) $$ Ht
  icases Ht with ⟨T0, T1, T2, T3, T4, T5, T6⟩
  iapply (part3 m ρ K c _ [0, 1, 2, 3, 4, 5, 6]) $$ [HO T0 X0 G0 T1 X1 G1 T2 X2 G2]
  · isplitr; · iexact He
    isplitl [HO]
    · iexact HO
    isplitl [T0 X0 G0]
    · isplitl [T0]; · iexact T0
      isplitl [X0]; · iexact X0
      iexact G0
    isplitl [T1 X1 G1]
    · isplitl [T1]; · iexact T1
      isplitl [X1]; · iexact X1
      iexact G1
    isplitl [T2]; · iexact T2
    isplitl [X2]; · iexact X2
    iexact G2
  iintro %v
  iintro ⟨HO, C00, C01, C02⟩
  iapply (part4 m ρ K c _ _ [0, 1, 2, 3, 4, 5, 6]) $$ [HO T3 X3 G3 T4 X4 G4]
  · isplitr; · iexact He
    isplitl [HO]
    · iexact HO
    isplitl [T3 X3 G3]
    · isplitl [T3]; · iexact T3
      isplitl [X3]; · iexact X3
      iexact G3
    isplitl [T4]; · iexact T4
    isplitl [X4]; · iexact X4
    iexact G4
  iintro ⟨HO, C03, C04⟩
  iapply (part5 m ρ K c _ (Transfers.shareDrop fullShare 7) [0, 1, 2, 3, 4, 5, 6]) $$ [HO T5 X5 G5 T6 X6 G6 H7]
  · isplitr; · iexact He
    isplitl [HO]
    · iexact HO
    isplitl [T5 X5 G5]
    · isplitl [T5]; · iexact T5
      isplitl [X5]; · iexact X5
      iexact G5
    isplitl [T6 X6 G6]
    · isplitl [T6]; · iexact T6
      isplitl [X6]; · iexact X6
      iexact G6
    iexact H7
  iintro ⟨HO, C05, C06, H7⟩
  iapply (part6 m ρ K c _) $$ [HO W10 F0 Y0 R0]
  · isplitr; · iexact He
    isplitl [HO]
    · iexact HO
    isplitl [W10]
    · iexact W10
    isplitl [F0]
    · iexact F0
    isplitl [Y0]; · iexact Y0
    iexact R0
  iintro ⟨HO, WX0, Z10, C20⟩
  iapply (part7 m ρ K c _) $$ [HO W11 F1 Y1 R1]
  · isplitr; · iexact He
    isplitl [HO]
    · iexact HO
    isplitl [W11]
    · iexact W11
    isplitl [F1]
    · iexact F1
    isplitl [Y1]; · iexact Y1
    iexact R1
  iintro ⟨HO, WX1, Z11, C21⟩
  iapply (part8 m ρ K c _) $$ [HO W12 F2]
  · isplitr; · iexact He
    isplitl [HO]
    · iexact HO
    isplitl [W12]
    · iexact W12
    iexact F2
  iintro ⟨HO, WX2, Z12, F2⟩
  iapply (part9 m ρ K c _) $$ [HO F2 Y2 R2 W13 F3]
  · isplitr; · iexact He
    isplitl [HO]
    · iexact HO
    isplitl [F2]
    · iexact F2
    isplitl [Y2 R2]
    · isplitl [Y2]; · iexact Y2
      iexact R2
    isplitl [W13]
    · iexact W13
    iexact F3
  iintro ⟨HO, C22, WX3, Z13, F3⟩
  iapply (part10 m ρ K c _) $$ [HO F3 Y3 R3 W14 F4]
  · isplitr; · iexact He
    isplitl [HO]
    · iexact HO
    isplitl [F3]
    · iexact F3
    isplitl [Y3 R3]
    · isplitl [Y3]; · iexact Y3
      iexact R3
    isplitl [W14]
    · iexact W14
    iexact F4
  iintro %v %v2
  iintro ⟨HO, C23, WX4, Z14, F4⟩
  dsimp only
  iapply (part11 m ρ K c _ _ _) $$ [HO F4 Y4 R4 W15 F5]
  · isplitr; · iexact He
    isplitl [HO]
    · iexact HO
    isplitl [F4]
    · iexact F4
    isplitl [Y4 R4]
    · isplitl [Y4]; · iexact Y4
      iexact R4
    isplitl [W15]
    · iexact W15
    iexact F5
  iintro %v %v2
  iintro ⟨HO, C24, WX5, Z15, F5⟩
  dsimp only
  iapply (part12 m ρ K c _ _ _) $$ [HO F5 Y5 R5 W16 F6]
  · isplitr; · iexact He
    isplitl [HO]
    · iexact HO
    isplitl [F5]
    · iexact F5
    isplitl [Y5 R5]
    · isplitl [Y5]; · iexact Y5
      iexact R5
    isplitl [W16]
    · iexact W16
    iexact F6
  iintro ⟨HO, C25, WX6, Z16, F6⟩
  iapply (part13 m ρ K c _ _) $$ [HO F6 Y6 R6 W30]
  · isplitr; · iexact He
    isplitl [HO]
    · iexact HO
    isplitl [F6]
    · iexact F6
    isplitl [Y6 R6]
    · isplitl [Y6]; · iexact Y6
      iexact R6
    iexact W30
  iintro %v
  iintro ⟨HO, C26, WR0, Z30⟩
  dsimp only
  iapply (part14 m ρ K c _ _ _) $$ [HO W31 W32]
  · isplitr; · iexact He
    isplitl [HO]
    · iexact HO
    isplitl [W31]
    · iexact W31
    iexact W32
  iintro ⟨HO, WR1, Z31, WR2, Z32⟩
  iapply (part15 m ρ K c _ _) $$ [HO W33 W34 W35]
  · isplitr; · iexact He
    isplitl [HO]
    · iexact HO
    isplitl [W33]
    · iexact W33
    isplitl [W34]
    · iexact W34
    iexact W35
  iintro ⟨HO, WR3, Z33, WR4, Z34, WR5, Z35⟩
  iapply (part16 m ρ K c _ _ f) $$ [HO WR5 W36 B3 C00 P00]
  · isplitr; · iexact He
    isplitl [HO]
    · iexact HO
    isplitl [WR5]
    · iexact WR5
    isplitl [W36]
    · iexact W36
    isplitl [B3]
    · iexact B3
    isplitl [C00]; · iexact C00
    iexact P00
  iintro ⟨HO, WR5, WR6, Z36, B3, A00⟩
  iapply (part17 m ρ K c ) $$ [HO C01 P01 C02 P02 C03 P03 C04 P04]
  · isplitr; · iexact He
    isplitl [HO]
    · iexact HO
    isplitl [C01 P01]
    · isplitl [C01]; · iexact C01
      iexact P01
    isplitl [C02 P02]
    · isplitl [C02]; · iexact C02
      iexact P02
    isplitl [C03 P03]
    · isplitl [C03]; · iexact C03
      iexact P03
    isplitl [C04]; · iexact C04
    iexact P04
  iintro ⟨HO, A01, A02, A03, A04⟩
  iapply (part18 m ρ K c ) $$ [HO C05 P05 C06 P06 C20 P20 C21 P21]
  · isplitr; · iexact He
    isplitl [HO]
    · iexact HO
    isplitl [C05 P05]
    · isplitl [C05]; · iexact C05
      iexact P05
    isplitl [C06 P06]
    · isplitl [C06]; · iexact C06
      iexact P06
    isplitl [C20 P20]
    · isplitl [C20]; · iexact C20
      iexact P20
    isplitl [C21]; · iexact C21
    iexact P21
  iintro ⟨HO, A05, A06, A20, A21⟩
  iapply (part19 m ρ K c ) $$ [HO C22 P22 C23 P23 C24 P24]
  · isplitr; · iexact He
    isplitl [HO]
    · iexact HO
    isplitl [C22 P22]
    · isplitl [C22]; · iexact C22
      iexact P22
    isplitl [C23 P23]
    · isplitl [C23]; · iexact C23
      iexact P23
    isplitl [C24]; · iexact C24
    iexact P24
  iintro ⟨HO, A22, A23, A24⟩
  iapply (step_backC m ρ K c 5 _ rfl _ rfl) $$ [HO C25 P25]
  · isplitr; · iexact He
    isplitl [HO]; · iexact HO
    isplitl [C25]; · iexact C25
    iexact P25
  iintro ⟨HO, A25⟩
  iapply (step_backC m ρ K c 6 _ rfl _ rfl) $$ [HO C26 P26]
  · isplitr; · iexact He
    isplitl [HO]; · iexact HO
    isplitl [C26]; · iexact C26
    iexact P26
  iintro ⟨HO, A26⟩
  unfold run; rw [wp_ret]; imodintro
  iapply Hk
  isplitl [HO]; · iexact HO
  isplitr [B0 B1 B2 B3]
  · unfold bodyEnd
    isplitr [H7 Hz]
    · iapply (Entails.of_eq (bigSep_seven _).symm)
      unfold stepEnd
      isplitl [A00 A20 WX0 Z10 WR0 Z30]
      · isplitl [A00]; · iexact A00
        isplitl [A20]; · iexact A20
        isplitl [WX0 Z10]
        · isplitl [WX0]; · iexact WX0
          iexact Z10
        isplitl [WR0]; · iexact WR0
        iexact Z30
      isplitl [A01 A21 WX1 Z11 WR1 Z31]
      · isplitl [A01]; · iexact A01
        isplitl [A21]; · iexact A21
        isplitl [WX1 Z11]
        · isplitl [WX1]; · iexact WX1
          iexact Z11
        isplitl [WR1]; · iexact WR1
        iexact Z31
      isplitl [A02 A22 WX2 Z12 WR2 Z32]
      · isplitl [A02]; · iexact A02
        isplitl [A22]; · iexact A22
        isplitl [WX2 Z12]
        · isplitl [WX2]; · iexact WX2
          iexact Z12
        isplitl [WR2]; · iexact WR2
        iexact Z32
      isplitl [A03 A23 WX3 Z13 WR3 Z33]
      · isplitl [A03]; · iexact A03
        isplitl [A23]; · iexact A23
        isplitl [WX3 Z13]
        · isplitl [WX3]; · iexact WX3
          iexact Z13
        isplitl [WR3]; · iexact WR3
        iexact Z33
      isplitl [A04 A24 WX4 Z14 WR4 Z34]
      · isplitl [A04]; · iexact A04
        isplitl [A24]; · iexact A24
        isplitl [WX4 Z14]
        · isplitl [WX4]; · iexact WX4
          iexact Z14
        isplitl [WR4]; · iexact WR4
        iexact Z34
      isplitl [A05 A25 WX5 Z15 WR5 Z35]
      · isplitl [A05]; · iexact A05
        isplitl [A25]; · iexact A25
        isplitl [WX5 Z15]
        · isplitl [WX5]; · iexact WX5
          iexact Z15
        isplitl [WR5]; · iexact WR5
        iexact Z35
      isplitl [A06]; · iexact A06
      isplitl [A26]; · iexact A26
      isplitl [WX6 Z16]
      · isplitl [WX6]; · iexact WX6
        iexact Z16
      isplitl [WR6]; · iexact WR6
      iexact Z36
    isplitl [H7]; · iexact H7
    iexact Hz
  isplitl [B0]; · iexact B0
  isplitl [B1]; · iexact B1
  isplitl [B2]; · iexact B2
  iexact B3

end Cert.KRun

end
-- ==== Proof.Launch.lean ====
/- The exchange's ghost state dealt out, the launch, and the run of the whole program. -/
module

public import proofs.«01_k».proof.Proof.Body
public import proofs.«01_k».proof.Proof.Gen.KernelIdeal.Launch
public import Idealize.ShloMosaic.Lib.Pipeline.CollectiveSegs

@[expose] public section

set_option maxRecDepth 16384

noncomputable section

namespace Cert.KRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families -/

omit [FloatOps F] in
/-- A family over the exchange's cells of one device. -/
theorem bigSep_CI (Φ : CI → sProp 𝕄) :
    bigSep Finset.univ Φ = iprop(Φ (.inl ()) ∗ bigSep Finset.univ fun q : Fin 4 => bigSep Finset.univ fun k : Fin 7 => Φ (.inr (q, k))) := by
  rw [BI.bigSep_univ_sum, bigSep_univ_prod (fun p : Fin 4 × Fin 7 => Φ (.inr p)), show (Finset.univ : Finset Unit) = {()} from rfl, bigSep_singleton]
  rfl

omit [FloatOps F] in
/-- A conjunction over four, written out. -/
theorem bigSep_four (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
/-- A family over the eight slots: the own slot and the seven for the peers. -/
theorem bigSep_eight (Φ : Fin 8 → sProp 𝕄) : bigSep Finset.univ Φ = iprop(Φ 7 ∗ bigSep Finset.univ fun i : Fin 7 => Φ i.castSucc) := by
  rw [show (Finset.univ : Finset (Fin 8)) = insert 7 (Finset.univ.map Fin.castSuccEmb) by decide, bigSep_insert (by decide), bigSep_map]
  rfl

/-- A device and a step, and the peer and the step in which it reaches back: a pairing. -/
def across : Dev nD × Fin 7 ≃ Dev nD × Fin 7 :=
  have h (p : Dev nD × Fin 7) : (peer (peer p.1 p.2) (rev p.2), rev (rev p.2)) = p := by rw [peer_rev, rev_rev]
  ⟨fun p => (peer p.1 p.2, rev p.2), fun p => (peer p.1 p.2, rev p.2), h, h⟩

omit [FloatOps F] in
/-- A family over devices and steps, read at every device's peers instead. -/
theorem deal (A : Dev nD → Fin 7 → sProp 𝕄) :
    (bigSep Finset.univ fun c : Dev nD => bigSep Finset.univ fun j : Fin 7 => A c j)
      = bigSep Finset.univ fun c : Dev nD => bigSep Finset.univ fun i : Fin 7 => A (peer c i) (rev i) := by
  rw [← bigSep_univ_prod (fun p : Dev nD × Fin 7 => A p.1 p.2), ← bigSep_univ_prod (fun p : Dev nD × Fin 7 => A (peer p.1 p.2) (rev p.2))]
  exact bigSep_univ_equiv across (fun p : Dev nD × Fin 7 => A p.1 p.2)

/-! ## The ghost state -/

/-- The tokens of the duties device `c` pays: of step `i`, its peer's barrier, both ends of its gather copy, both ends of its reduction copy. -/
def payToks (c : Dev nD) : sProp 𝕄 :=
  iprop((bigSep Finset.univ fun i : Fin 7 => dutyTok ER (fB c i) 0 (rev i))
    ∗ (bigSep Finset.univ fun i : Fin 7 => dutyTok ER (xcell c 0 i) 0 0) ∗ (bigSep Finset.univ fun i : Fin 7 => dutyTok ER (fA c i) 0 0)
    ∗ (bigSep Finset.univ fun i : Fin 7 => dutyTok ER (xcell c 2 i) 0 0) ∗ (bigSep Finset.univ fun i : Fin 7 => dutyTok ER (fR c i) 0 0))
/-- The places before the rounds of device `c`'s cells. -/
def places (c : Dev nD) : sProp 𝕄 := bigSep Finset.univ fun k : CI => atPos ER (kcell (c, k)) 0 ∅ 0
/-- What a device alone holds of the schedule: its places and the tokens of its payments. -/
def linear (c : Dev nD) : sProp 𝕄 := iprop(places c ∗ payToks c)

/-- What device `c`'s body starts from besides the buffers. -/
def start (c : Dev nD) : sProp 𝕄 :=
  iprop((∃ K, records m ρ K ∗ linear c) ∗ cred (tallyAt (barCell c) () 7)
    ∗ (bigSep Finset.univ fun k : Fin 7 => cred (tallyAt (xcell c 1 k) () N)) ∗ (bigSep Finset.univ fun k : Fin 7 => cred (tallyAt (xcell c 3 k) () N)) ∗ levAts L lv)

/-- A scratch buffer at some contents. -/
abbrev scr (c : Dev nD) (b : Ref sig .tc) : sProp 𝕄 := iprop(∃ f : Buf (Elt F) ((c : Thread nD τ).loc b), ((c : Thread nD τ).loc b) ↦{fullShare} f)

/-- What the body starts from. -/
def Φ₀ (c : Dev nD) : sProp 𝕄 := iprop(start m ρ c ∗ scr c cc0_scratch0 ∗ scr c cc0_scratch1 ∗ scr c cc0_scratch2)

/-- The data of the region: what the windows hold and what the body keeps. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xC m ρ c
    | ⟨1, _⟩ => w1C m ρ c
    | ⟨2, _⟩ => w2C m ρ c
    | ⟨3, _⟩ => outAt m ρ c
  Φ t := match t with
    | ⟨0, _⟩ => Φ₀ m ρ c
    | ⟨_ + 1, _⟩ => bodyEnd m ρ c
  q _ := fullShare
  owed t := match t with
    | ⟨0, _⟩ => O₀ c
    | ⟨_ + 1, _⟩ => 0

/-- The grid's one point. -/
abbrev t₀ : Fin cfg0.N := ⟨0, by decide⟩
/-- The grid has one point. -/
theorem fin_N (t : Fin cfg0.N) : t = t₀ := Fin.ext (Nat.lt_one_iff.mp t.isLt)

/-- The rows are fetched at every point, -/
theorem fetch_0 (t : Fin cfg0.N) : (cfg0.win (0 : Fin 4)).fetch t = true := by rw [fin_N t]; rfl
/-- so are the first weights -/
theorem fetch_1 (t : Fin cfg0.N) : (cfg0.win (1 : Fin 4)).fetch t = true := by rw [fin_N t]; rfl
/-- and the second. -/
theorem fetch_2 (t : Fin cfg0.N) : (cfg0.win (2 : Fin 4)).fetch t = true := by rw [fin_N t]; rfl

omit [FloatOps F] in
/-- Owning a whole buffer through its memref is owning the buffer. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

omit [FloatOps F] in
/-- A buffer held whole at some contents is one held at what a view of the whole reads; -/
theorem scr_owns (c : Dev nD) (b : Ref sig .tc) :
    (scr c b : sProp 𝕄) ⊢ iprop(∃ X, owns (Ix := Unit) (Name := ℕ) (U := UU) (Lvl := ℕ) (c : Thread nD τ) (Memref.whole b) fullShare X) := by
  iintro ⟨%f, H⟩
  iexists f
  iapply (Entails.of_eq (owns_whole_eq c b f).symm)
  iexists f
  isplitr; · (ipureintro; rfl)
  iexact H
omit [FloatOps F] in
/-- and back. -/
theorem owns_scr (c : Dev nD) (b : Ref sig .tc) :
    iprop(∃ X, owns (Ix := Unit) (Name := ℕ) (U := UU) (Lvl := ℕ) (c : Thread nD τ) (Memref.whole b) fullShare X) ⊢ (scr c b : sProp 𝕄) := by
  iintro ⟨%X, H⟩
  ihave H := (Entails.of_eq (owns_whole_eq c b X)) $$ H
  icases H with ⟨%f, -, H⟩
  iexists f; iexact H

/-- The gathered rows' buffer is cut into its slots; -/
theorem cut_xg (c : Dev nD) : (scr c cc0_scratch0 : sProp 𝕄) ⊢ bigSep Finset.univ fun t : Fin 8 => free c (xgR t) := by
  iintro H
  ihave H := (scr_owns (F := F) c cc0_scratch0) $$ H
  icases H with ⟨%X, H⟩
  iapply (cut_free c xgM fullShare r8 (fun _ _ => rfl) disj8 cover8 X) $$ H
/-- so is the buffer of the sums to be sent -/
theorem cut_cb (c : Dev nD) : (scr c cc0_scratch1 : sProp 𝕄) ⊢ bigSep Finset.univ fun t : Fin 7 => free c (cbR t) := by
  iintro H
  ihave H := (scr_owns (F := F) c cc0_scratch1) $$ H
  icases H with ⟨%X, H⟩
  iapply (cut_free c cbM fullShare r7 (fun _ _ => rfl) disj7 cover7 X) $$ H
/-- and that of the returned ones. -/
theorem cut_rs (c : Dev nD) : (scr c cc0_scratch2 : sProp 𝕄) ⊢ bigSep Finset.univ fun t : Fin 7 => free c (rsR t) := by
  iintro H
  ihave H := (scr_owns (F := F) c cc0_scratch2) $$ H
  icases H with ⟨%X, H⟩
  iapply (cut_free c rsM fullShare r7 (fun _ _ => rfl) disj7 cover7 X) $$ H
/-- The slots of the gathered rows make up their buffer again, -/
theorem join_xg (c : Dev nD) : (bigSep Finset.univ fun t : Fin 8 => free c (xgR t)) ⊢ (scr c cc0_scratch0 : sProp 𝕄) :=
  (join_free c xgM fullShare r8 (fun _ _ => rfl) disj8 cover8).trans (owns_scr c cc0_scratch0)
/-- as do those of the sums to be sent -/
theorem join_cb (c : Dev nD) : (bigSep Finset.univ fun t : Fin 7 => free c (cbR t)) ⊢ (scr c cc0_scratch1 : sProp 𝕄) :=
  (join_free c cbM fullShare r7 (fun _ _ => rfl) disj7 cover7).trans (owns_scr c cc0_scratch1)
/-- and of the returned ones. -/
theorem join_rs (c : Dev nD) : (bigSep Finset.univ fun t : Fin 7 => free c (rsR t)) ⊢ (scr c cc0_scratch2 : sProp 𝕄) :=
  (join_free c rsM fullShare r7 (fun _ _ => rfl) disj7 cover7).trans (owns_scr c cc0_scratch2)

/-- The start of the body from what the launch hands over: at some names, the records and all the rest. -/
theorem start_body (c : Dev nD) : Φ₀ m ρ c ⊢ iprop(∃ K, env m ρ K ∗ bodyStart c) := by
  unfold Φ₀ start linear payToks places bodyStart stepStart env
  iintro ⟨⟨⟨%K, Hrec, Hat, HtB, Ht0, HtA, Ht2, HtR⟩, Hc, Hc1, Hc3, Hlev⟩, Hx, Hcb, Hrs⟩
  ihave Hx := (cut_xg (F := F) c) $$ Hx
  ihave Hx := (Entails.of_eq (bigSep_eight _)) $$ Hx
  icases Hx with ⟨H7, Hx⟩
  ihave Hcb := (cut_cb (F := F) c) $$ Hcb
  ihave Hrs := (cut_rs (F := F) c) $$ Hrs
  ihave Hat := (Entails.of_eq (bigSep_CI _)) $$ Hat
  icases Hat with ⟨Hab, Hat⟩
  ihave Hat := (Entails.of_eq (bigSep_four _)) $$ Hat
  icases Hat with ⟨Ha0, Ha1, Ha2, Ha3⟩
  iexists K
  isplitl [Hrec Hlev]
  · isplitl [Hrec] <;> iassumption
  simp only [bigSep_sep']
  isplitr [H7 Hc Hab]
  · isplitl [HtB Hx Hrs]
    · isplitl [HtB]; · iexact HtB
      isplitl [Hx] <;> iassumption
    isplitl [Ht0 HtA]
    · isplitl [Ht0] <;> iassumption
    isplitl [Ht2 HtR]
    · isplitl [Ht2] <;> iassumption
    isplitl [Ha0]; · iexact Ha0
    isplitl [Ha2]; · iexact Ha2
    isplitl [Hc1 Ha1]
    · isplitl [Hc1] <;> iassumption
    isplitl [Hc3 Ha3]
    · isplitl [Hc3] <;> iassumption
    iexact Hcb
  isplitl [H7]; · iexact H7
  isplitl [Hc] <;> iassumption

/-! ## The body -/

/-- A staging buffer held with given contents. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
/-- A conjunction over the windows, written out. -/
theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

/-- What the body is given at its point. -/
def bodyPre (c : Dev nD) : sProp 𝕄 :=
  iprop(Φ₀ m ρ c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

/-- What the body leaves. -/
def bodyPost (c : Dev nD) : sProp 𝕄 :=
  iprop(bodyEnd m ρ c ∗ (dats m ρ 0 c).owesAt () t₀.succ ∗ stg c cc0_stg0_0 (xC m ρ c) ∗ stg c cc0_stg1_0 (w1C m ρ c) ∗ stg c cc0_stg2_0 (w2C m ρ c)
    ∗ stg c cc0_stg3_0 (outAt m ρ c))

/-- The body's one pass on device `c`. -/
theorem pass (c : Dev nD) : bodyPre m ρ c ⊢ run c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) (fun _ => bodyPost m ρ c) := by
  unfold bodyPre
  iintro ⟨HΦ, Ho, ⟨%d0, %g0, %h0, B0⟩, ⟨%d1, %g1, %h1, B1⟩, ⟨%d2, %g2, %h2, B2⟩, ⟨%d3, %g3, -, B3⟩⟩
  have h0 : g0 = xC m ρ c := by rw [h0]; unfold Dat.before; rw [if_pos (fetch_0 t₀)]; rfl
  have h1 : g1 = w1C m ρ c := by rw [h1]; unfold Dat.before; rw [if_pos (fetch_1 t₀)]; rfl
  have h2 : g2 = w2C m ρ c := by rw [h2]; unfold Dat.before; rw [if_pos (fetch_2 t₀)]; rfl
  subst h0 h1 h2
  unfold Dat.owesAt Pipeline.owesWithin
  icases Ho with ⟨%W, %hW, HO⟩
  rw [show (dats m ρ 0 c).owed t₀.castSucc = Ow c all7 all7 all7 from rfl]
  ihave HΦ := (start_body m ρ c) $$ HΦ
  icases HΦ with ⟨%K, He, Hs⟩
  iapply (sound_body m ρ K c g3) $$ [He HO Hs B0 B1 B2 B3]
  · isplitl [He]; · iexact He
    isplitl [HO]; · unfold ow; iexists W; iexact HO
    isplitl [Hs]; · iexact Hs
    isplitl [B0]; · iexact B0
    isplitl [B1]; · iexact B1
    isplitl [B2]; · iexact B2
    iexact B3
  unfold ow bodyPost Dat.owesAt Pipeline.owesWithin
  rw [show (dats m ρ 0 c).owed t₀.succ = 0 from rfl, Ow_nil]
  iintro ⟨⟨%W', HO⟩, He, B0, B1, B2, B3⟩
  isplitl [He]; · iexact He
  isplitl [HO]
  · iexists W'
    isplitr; · ipureintro; exact fun _ _ => Or.inl trivial
    iexact HO
  isplitl [B0]
  · iexists _; isplitr; · (ipureintro; rfl)
    iexact B0
  isplitl [B1]
  · iexists _; isplitr; · (ipureintro; rfl)
    iexact B1
  isplitl [B2]
  · iexists _; isplitr; · (ipureintro; rfl)
    iexact B2
  iexists _; isplitr; · (ipureintro; rfl)
  iexact B3

/-- The pipeline's obligation for the body on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ run c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) (fun _ => bodyPost m ρ c)
  exact pass m ρ c

/-! ## The launch -/

/-- The kernel's own semaphores are scoped, different, and not the pipeline's. -/
theorem ownSemFacts : Pipeline.OwnSemFacts cfg0.spec osem := by decide

/-- Every window is held whole. -/
theorem share_eq (c : Dev nD) (w : Fin cfg0.W) : (dats m ρ 0 c).share w = fullShare := by unfold Dat.share; split <;> rfl

/-- Different names are different semaphores. -/
theorem csem_injective : Function.Injective (csem : CI → SemLoc sig) := by
  rintro (u | ⟨q, k⟩) (u' | ⟨q', k'⟩) h
  · rfl
  · cases h
  · cases h
  · have h' : dsem q k = dsem q' k' := by injection h
    have h1 : q = q' := by rw [← qOf_dsem q k, h', qOf_dsem]
    have h2 : k = k' := by rw [← kOf_dsem q k, h', kOf_dsem]
    rw [h1, h2]

/-- Different devices or names have different semaphores. -/
theorem kcell_injective : Function.Injective (kcell : Dev nD × CI → GSem nD τ sig) := by
  rintro ⟨c, k⟩ ⟨c', k'⟩ h
  have h1 : c = c' := by have := congrArg (fun g : GSem nD τ sig => g.1.1) h; exact this
  have h2 : k = k' := csem_injective (congrArg Prod.snd h)
  rw [h1, h2]
/-- All the semaphores of the exchange. -/
def ringCells : Finset (GSem nD τ sig) := Finset.univ.map ⟨kcell, kcell_injective⟩

/-- The duties of a device's cells: seven of its barrier, one of each of the others. -/
abbrev DI : Type := Fin 7 ⊕ (Fin 4 × Fin 7)
/-- The token of a device's duty. -/
abbrev tokOf (cj : Dev nD × DI) : GSem nD τ sig × ℕ × Fin 7 := match cj.2 with
  | .inl j => (barCell cj.1, 0, j)
  | .inr p => (xcell cj.1 p.1 p.2, 0, 0)
/-- Different duties have different tokens. -/
theorem tokOf_injective : Function.Injective (tokOf : Dev nD × DI → GSem nD τ sig × ℕ × Fin 7) := by
  rintro ⟨c, j | p⟩ ⟨c', j' | p'⟩ h
  · have h1 : (c, (.inl () : CI)) = (c', .inl ()) := kcell_injective (congrArg Prod.fst h)
    have h2 : j = j' := congrArg (fun x : GSem nD τ sig × ℕ × Fin 7 => x.2.2) h
    have h0 : c = c' := congrArg Prod.fst h1
    rw [h0, h2]
  · have h1 : (c, (.inl () : CI)) = (c', .inr p') := kcell_injective (congrArg Prod.fst h)
    exact absurd (congrArg Prod.snd h1) (by simp)
  · have h1 : (c, (.inr p : CI)) = (c', .inl ()) := kcell_injective (congrArg Prod.fst h)
    exact absurd (congrArg Prod.snd h1) (by simp)
  · have h1 : (c, (.inr p : CI)) = (c', .inr p') := kcell_injective (congrArg Prod.fst h)
    have h2 : p = p' := Sum.inr_injective (congrArg Prod.snd h1)
    have h0 : c = c' := congrArg Prod.fst h1
    rw [h0, h2]
/-- The tokens of all the duties. -/
def ringToks : Finset (GSem nD τ sig × ℕ × Fin 7) := Finset.univ.map ⟨tokOf, tokOf_injective⟩

/-- The ghost state at the start. -/
def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun j : Fin 7 => dutyTok ER (barCell c) 0 j)
    ∗ (bigSep Finset.univ fun k : Fin 7 => dutyTok ER (xcell c 0 k) 0 0) ∗ (bigSep Finset.univ fun k : Fin 7 => dutyTok ER (xcell c 1 k) 0 0)
    ∗ (bigSep Finset.univ fun k : Fin 7 => dutyTok ER (xcell c 2 k) 0 0) ∗ (bigSep Finset.univ fun k : Fin 7 => dutyTok ER (xcell c 3 k) 0 0))

/-- What the launch deals device `c`. -/
def G (c : Dev nD) : sProp 𝕄 :=
  iprop((bigSep Finset.univ fun k : CI => roundState ER (Rd m ρ) (kcell (c, k)) 0)
    ∗ (bigSep Finset.univ fun k : CI => iprop(atPos ER (kcell (c, k)) 0 ∅ 0 ∗ reached ER (kcell (c, k)) 0)) ∗ toks c)

/-- What the devices together make of it. -/
def G' (c : Dev nD) : sProp 𝕄 := iprop(∃ K, records m ρ K ∗ linear c)

/-- The ghost state at the start gives each device its part. -/
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by
      unfold toks
      rw [BI.bigSep_univ_sum, bigSep_univ_prod (fun p : Fin 4 × Fin 7 => _), bigSep_four]; rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- A device's own semaphores at zero, listed by group and step. -/
theorem ownSems0_eq (c : Dev nD) : (Pipeline.ownSems0 (Ix := Unit) (Name := ℕ) (U := UU) (Lvl := ℕ) (Val := Elt F) (τ := τ) osem c : sProp 𝕄)
    = bigSep Finset.univ fun q : Fin 4 => bigSep Finset.univ fun k : Fin 7 => semVal (xcell c q k) 0 := by
  unfold Pipeline.ownSems0; rw [bigSep_univ_prod]
omit [FloatOps F] in
/-- the barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- With the barrier semaphore, all of a device's semaphores of the exchange at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [ownSems0_eq, unscopedSems0_eq, bigSep_CI]
  iintro ⟨HS, HB⟩
  isplitl [HB]; · iexact HB
  iexact HS

/-- A device's semaphores at zero become invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The tokens dealt around: a cell's duty to the device that pays it. -/
theorem toks_around : (bigSep Finset.univ fun c : Dev nD => (toks c : sProp 𝕄)) ⊢ bigSep Finset.univ fun c : Dev nD => payToks c := by
  unfold toks payToks
  simp only [bigSep_sep']
  rw [deal (fun c j => (dutyTok ER (barCell c) 0 j : sProp 𝕄)), deal (fun c k => (dutyTok ER (xcell c 1 k) 0 0 : sProp 𝕄)),
    deal (fun c k => (dutyTok ER (xcell c 3 k) 0 0 : sProp 𝕄))]

omit [FloatOps F] in
/-- A lasting fact may be used for every member of a conjunction. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The shared records and a device's own part make up what it starts with. -/
theorem ghost_intro (K : Dev nD × CI → ℕ) (c : Dev nD) : iprop(records m ρ K ∗ linear c) ⊢ G' m ρ c := by
  unfold G'; iintro H; iexists K; iexact H

/-- The tokens go from the devices that are paid to the devices that pay. -/
theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CI => iprop(∃ κ : ℕ, cellInv ER (Rd m ρ) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (Rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · unfold linear places
    simp only [bigSep_sep']
    isplitl [Hat]; · iexact Hat
    iexact Htk

/-- All devices' semaphores and dealt state at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

/-- What is owed at a cell: `n` from each step that pays it. -/
theorem owe_all (f : Fin 7 → GSem nD τ sig) (n : ℕ) (g : GSem nD τ sig) : owe f n all7 g () = ∑ i : Fin 7, if g = f i then n else 0 := by
  rw [Fin.sum_univ_seven]
  simp only [owe, all7, Pi.add_apply, Finsupp.add_apply, tallyAt_apply, and_true]
  show 0 + _ + _ + _ + _ + _ + _ + _ = _
  omega

/-- What a device owes on one semaphore. -/
theorem O₀_at (d : Dev nD) (g : GSem nD τ sig) :
    O₀ d g () = (∑ i : Fin 7, if g = fR d i then N else 0) + (∑ i : Fin 7, if g = fA d i then N else 0) + ∑ i : Fin 7, if g = fB d i then 1 else 0 := by
  unfold O₀ Ow
  rw [Pi.add_apply, Finsupp.add_apply, Pi.add_apply, Finsupp.add_apply, owe_all, owe_all, owe_all]

/-- Copies' semaphores are the same just where device, group and step are. -/
theorem xcell_iff {c c' : Dev nD} {q q' : Fin 4} {k k' : Fin 7} : xcell c q k = xcell c' q' k' ↔ c = c' ∧ q = q' ∧ k = k' := by
  constructor
  · intro h
    have h1 : (c, (.inr (q, k) : CI)) = (c', .inr (q', k')) := kcell_injective h
    simpa using h1
  · rintro ⟨rfl, rfl, rfl⟩; rfl
/-- Barrier semaphores are the same just where the devices are. -/
theorem bar_iff {c c' : Dev nD} : barCell c = barCell c' ↔ c = c' := by
  constructor
  · intro h
    have h1 : (c, (.inl () : CI)) = (c', .inl ()) := kcell_injective h
    exact congrArg Prod.fst h1
  · rintro rfl; rfl
/-- A copy's semaphore is not a barrier semaphore. -/
theorem x_ne_bar {c c' : Dev nD} {q : Fin 4} {k : Fin 7} : xcell c q k ≠ barCell c' := fun h => by
  have h1 : (c, (.inr (q, k) : CI)) = (c', .inl ()) := kcell_injective h
  exact absurd (congrArg Prod.snd h1) (by simp)

/-- One device and one step reach a given entry of a given device. -/
theorem one_pays (c : Dev nD) (k : Fin 7) (n : ℕ) : (∑ d : Dev nD, ∑ i : Fin 7, if c = peer d i ∧ k = rev i then n else 0) = n := by
  have h (d : Dev nD) (i : Fin 7) : (c = peer d i ∧ k = rev i) ↔ (i = rev k ∧ d = peer c k) := by
    constructor
    · rintro ⟨rfl, rfl⟩; exact ⟨(rev_rev i).symm, (peer_rev d i).symm⟩
    · rintro ⟨rfl, rfl⟩; exact ⟨(peer_rev c k).symm, (rev_rev k).symm⟩
  simp only [h, ite_and]
  simp

/-- All that is owed on a receive semaphore at the start. -/
theorem launch_x (c : Dev nD) (q : Fin 4) (hq : q = 1 ∨ q = 3) (k : Fin 7) :
    tallyOn (xcell c q k) (launchCredit (Pipeline.owing O₀) 0 (xcell c q k)) = (tallyAt (xcell c q k) () N : CellTallies nD τ sig Unit) := by
  unfold tallyAt; refine congrArg _ (Finsupp.ext fun u => ?_); cases u
  rw [Pipeline.launchCredit_owing, Finsupp.single_eq_same]
  refine Eq.trans (Finset.sum_congr rfl fun d _ => ?_) (one_pays c k N)
  rw [O₀_at]
  simp only [xcell_iff, x_ne_bar, if_false, Finset.sum_const_zero, add_zero]
  rcases hq with rfl | rfl <;> simp

/-- All that is owed on a barrier semaphore at the start. -/
theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same]
  refine Eq.trans (Finset.sum_congr rfl fun d _ => ?_) (show (∑ d : Dev nD, ∑ i : Fin 7, if c = peer d i then 1 else 0) = 7 by revert c; decide)
  rw [O₀_at]
  simp only [bar_iff, x_ne_bar.symm, if_false, Finset.sum_const_zero, zero_add]

omit [FloatOps F] in
/-- Of a family over all semaphores, the part over those of the exchange. -/
theorem some_sems (Φ : SemLoc sig → sProp 𝕄) : bigSep Finset.univ Φ ⊢ bigSep Finset.univ fun k : CI => Φ (csem k) :=
  (BI.bigSep_subset (Finset.subset_univ (Finset.univ.map ⟨csem, csem_injective⟩))).trans (Entails.of_eq (bigSep_map _))

omit [FloatOps F] in
/-- The launch credits a device with what its semaphores will be paid. -/
theorem creds (c : Dev nD) :
    (Pipeline.launchCred O₀ c : sProp 𝕄) ⊢ iprop(cred (tallyAt (barCell c) () 7)
      ∗ (bigSep Finset.univ fun k : Fin 7 => cred (tallyAt (xcell c 1 k) () N)) ∗ (bigSep Finset.univ fun k : Fin 7 => cred (tallyAt (xcell c 3 k) () N))) := by
  unfold Pipeline.launchCred
  rw [← launch_bar]
  simp only [← launch_x c 1 (.inl rfl), ← launch_x c 3 (.inr rfl)]
  iintro H
  ihave H := (some_sems _) $$ H
  ihave H := (Entails.of_eq (bigSep_CI _)) $$ H
  icases H with ⟨H, Hx⟩
  ihave Hx := (Entails.of_eq (bigSep_four _)) $$ Hx
  icases Hx with ⟨-, H1, -, H3⟩
  isplitl [H]; · iexact H
  isplitl [H1]; · iexact H1
  iexact H3

/-! ### The side conditions of the run -/

/-- A device's parts and credits make up what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HA, HR⟩
  imodintro
  unfold start G'
  isplitl
  · isplitl [HG]; · iexact HG
    isplitl [H1]; · iexact H1
    isplitl [HA]; · iexact HA
    isplitl [HR]; · iexact HR
    iexact Hlev
  · iempintro

/-- With the scratch buffers, that is the body's start. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

omit [FloatOps F] in
/-- Slots that hold something are slots held. -/
theorem free_all (c : Dev nD) (M : Fin 7 → Memref sig .tc .vmem S1x512x512 .bf16) (v : Fin 7 → Slab F) :
    (bigSep Finset.univ fun i => holds c (M i) fullShare (v i) : sProp 𝕄) ⊢ bigSep Finset.univ fun i => free c (M i) :=
  bigSep_mono fun i _ => free_intro c (M i) (v i)

/-- At the end the scratch buffers and semaphores are given back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = bodyEnd m ρ c from rfl, scopedRest0_eq, ownSems0_eq, unscopedSems0_eq, bigSep_four]
  unfold bodyEnd stepEnd backX backC
  simp only [bigSep_sep']
  iintro ⟨⟨⟨HT, Z0⟩, ⟨HC, Z2⟩, ⟨HX, Z1⟩, ⟨HR, Z3⟩⟩, H7, HB⟩
  isplitl [HB]; · iexact HB
  isplitl [Z0 Z1 Z2 Z3]
  · isplitl [Z0]; · iexact Z0
    isplitl [Z1]; · iexact Z1
    isplitl [Z2] <;> iassumption
  isplitl [HT HX H7]
  · iapply (join_xg (F := F) c)
    iapply (Entails.of_eq (bigSep_eight _).symm)
    isplitl [HT H7]
    · ihave H := (join_toks c xgM fullShare (r8 7) (fun _ => rfl) (X1 m ρ c)) $$ [H7 HT]
      · isplitl [H7] <;> iassumption
      iexists _; iexact H
    iapply (free_all c (fun i => xgR i.castSucc) (fun i => X1 m ρ (peer c i))) $$ HX
  isplitl [HC]
  · iapply (join_cb (F := F) c) $$ HC
  iapply (join_rs (F := F) c)
  iapply (free_all c (fun i => rsR i) (fun i => T1 m ρ (peer c i) c)) $$ HR

/-- A staging semaphore may be waited for under all that is owed. -/
theorem mayWait_stage (c : Dev nD) (s : DmaSem sig) (hs : lv ((c : Thread nD τ), .dma s) () ≤ 0) (O : CellTallies nD τ sig Unit) (hO : O = O₀ c ∨ O = 0) :
    (levAts L lv : sProp 𝕄) ⊢ MayWait (c : Thread nD τ) (.dma s) () O := by
  rcases hO with rfl | rfl
  · exact mayWait c _ 0 hs _ _ _ (by decide) (.inr (by decide)) (.inr (by decide))
  · rw [MayWait_zero]; iintro -; iempintro

/-- The pipeline's waits are allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> exact le_of_eq rfl) _ (by
      rcases t with ⟨_ | _, ht⟩
      · exact Or.inl rfl
      · exact Or.inr rfl)

/-! ### The run -/

/-- What each window's array holds at the end. -/
def finalA (c : Dev nD) (w : Fin cfg0.W) : Buf (Elt F) ((cfg0.win w).arr.view.loc (c : Thread nD τ)) := (dats m ρ 0 c).arrAt w cfg0.N

/-- The final states: each device's arrays hold those contents. -/
def QC : PUnit × MemSt nD τ sig (Elt F) → Prop := fun r =>
  ∀ c : Dev nD, ∀ w : Fin cfg0.W, r.2.mem ((cfg0.win w).arr.view.loc (c : Thread nD τ)) = finalA m ρ c w

/-- From any memory with zero counters, at any float values: every weakly fair execution of the program on the eight devices
    terminates, and every final state has each device's arrays at the computed contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KRun

end
-- ==== Proof.Finals.lean ====
/-
What the launch leaves in the arrays. The kernel runs once, over whole arrays, so each argument array is read as it stood and the
result array ends at the contents the body stored. From this and the run follow the frames: the arguments unchanged, every
semaphore at zero.
-/
module

public import proofs.«01_k».proof.Proof.Launch
public import Idealize.ShloMosaic.Lib.Pipeline.Value
public import proofs.«01_k».proof.Proof.Gen.Kernel

@[expose] public section

set_option maxRecDepth 16384

noncomputable section

namespace Cert.KRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The rows a device's body reads are the whole of its first argument. -/
theorem xC_eq (c : Dev nD) : xC m ρ c = m ((c : Thread nD τ).loc main_arg0) := by
  funext j
  refine congrArg (m ((c : Thread nD τ).loc main_arg0)) (Shape.idx_ext₂ (n := ![512, 512]) ?_ ?_)
  · exact win0_0.rect_emb_val_of_index_zero (0 : Fin 1) 0 rfl j
  · exact win0_0.rect_emb_val_of_index_zero (0 : Fin 1) 1 rfl j

/-- The first weights a device's body reads are the whole of its second argument. -/
theorem w1C_eq (c : Dev nD) : w1C m ρ c = m ((c : Thread nD τ).loc main_arg1) := by
  funext j
  refine congrArg (m ((c : Thread nD τ).loc main_arg1)) (Shape.idx_ext₂ (n := ![512, 2048]) ?_ ?_)
  · exact win0_1.rect_emb_val_of_index_zero (0 : Fin 1) 0 rfl j
  · exact win0_1.rect_emb_val_of_index_zero (0 : Fin 1) 1 rfl j

/-- The second weights a device's body reads are the whole of its third argument. -/
theorem w2C_eq (c : Dev nD) : w2C m ρ c = m ((c : Thread nD τ).loc main_arg2) := by
  funext j
  refine congrArg (m ((c : Thread nD τ).loc main_arg2)) (Shape.idx_ext₂ (n := ![2048, 512]) ?_ ?_)
  · exact win0_2.rect_emb_val_of_index_zero (0 : Fin 1) 0 rfl j
  · exact win0_2.rect_emb_val_of_index_zero (0 : Fin 1) 1 rfl j

/-- The result's block is the whole array, so reading it back changes nothing. -/
theorem read_out (c : Dev nD) (X : Buf (Elt F) ((c : Thread nD τ).loc main_v1)) (t : Fin cfg0.N) :
    ((cfg0.win (3 : Fin 4)).blk t).view.read (Elt F) X = X := by
  rw [fin_N t]
  funext j
  refine congrArg X (Shape.idx_ext₂ (n := ![512, 512]) ?_ ?_)
  · exact win0_3.rect_emb_val_of_index_zero (0 : Fin 1) 0 rfl j
  · exact win0_3.rect_emb_val_of_index_zero (0 : Fin 1) 1 rfl j

/-- Every entry of the result array lies in the block that the one grid point writes back. -/
theorem covered (i : S512x512.Idx) : ∃ t : Fin cfg0.N, (cfg0.win (3 : Fin 4)).flush t = true ∧ i ∈ ((cfg0.win (3 : Fin 4)).blk t).view.set := by
  refine ⟨t₀, by decide, ?_⟩
  have e : ((cfg0.win (3 : Fin 4)).blk t₀).view.emb i = i := by
    refine Shape.idx_ext₂ (n := ![512, 512]) ?_ ?_
    · exact win0_3.rect_emb_val_of_index_zero (0 : Fin 1) 0 rfl i
    · exact win0_3.rect_emb_val_of_index_zero (0 : Fin 1) 1 rfl i
  have h := ((cfg0.win (3 : Fin 4)).blk t₀).view.emb_mem_set i
  rw [e] at h
  exact h

/-- The result array of each device ends at what its body stored. -/
theorem final_out (c : Dev nD) : finalA m ρ c (3 : Fin 4) = outAt m ρ c :=
  (dats (F := F) m ρ 0 c).arrAt_eq_of_cover (3 : Fin 4) (outAt m ρ c) (fun t _ => (read_out c (outAt m ρ c) t).symm) covered

/-- A final state of the run has the arguments as they were, -/
theorem args_kept {r : PUnit × MemSt nD τ sig (Elt F)} (h : QC m ρ r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  ⟨(h c (0 : Fin 4)).trans ((dats (F := F) m ρ 0 c).arrAt_in (0 : Fin 4) rfl _),
    (h c (1 : Fin 4)).trans ((dats (F := F) m ρ 0 c).arrAt_in (1 : Fin 4) rfl _),
    (h c (2 : Fin 4)).trans ((dats (F := F) m ρ 0 c).arrAt_in (2 : Fin 4) rfl _)⟩

/-- and each device's result as its body stored it. -/
theorem result_stored {r : PUnit × MemSt nD τ sig (Elt F)} (h : QC m ρ r) (c : Dev nD) :
    r.2.mem ((c : Thread nD τ).loc main_v1) = outAt m ρ c :=
  (h c (3 : Fin 4)).trans (final_out m ρ c)

/-- From any memory with zero counters the program ends with its arguments unchanged and every semaphore at zero. -/
theorem frame_run : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  (θ_run defs _ _).mono (fun r h => ⟨args_kept m ρ h.1, h.2⟩) (run_main m ρ)

/-- From any memory with zero counters the program ends with each device's result as stored and its arguments unchanged. -/
theorem value_run : θ_run defs (onTc (τ := τ) (main (F := F))) ⟨m, fun _ => 0, ρ⟩ (fun r => ∀ c : Dev nD,
    r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r h c => ⟨result_stored m ρ h.1 c, args_kept m ρ h.1 c⟩) (run_main m ρ)

end Cert.KRun

end
-- ==== Proof.Value.lean ====
/-
What a device's result is over the extended reals: at row `r` and column `j`, the sum over the eight devices `d` of
`∑ f, silu (∑ k, x (r, k) * W1 d (k, f)) * W2 d (f, j)`, `x` being the device's own rows and `W1 d`, `W2 d` the weights of device `d`.
-/
module

public import proofs.«01_k».proof.Proof.Protocol
public import Idealize.ShloMosaic.Lib.Pipeline.Value
public import Idealize.ShloMosaic.Lib.MatmulPlain
public import Idealize.ShloMosaic.Lib.IdealHost

@[expose] public section

set_option maxRecDepth 16384

noncomputable section

namespace Cert.KRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-- A matrix of extended reals with `a` rows and `b` columns. -/
abbrev Mat (a b : ℕ) : Type := (⟨2, ![a, b]⟩ : Shape).Idx → EReal

/-- The activation: a number times its logistic. -/
def silu (h : EReal) : EReal := h * Ideal.logistic h

/-- The entry (`r`, `f`) of the product of `x` and `w`. -/
def hid {a b c : ℕ} (x : Mat a b) (w : Mat b c) (r : Fin a) (f : Fin c) : EReal := ∑ k : Fin b, x (ix2 r k) * w (ix2 k f)

/-- The entry (`r`, `j`) of the two-layer network with the activation `g`. -/
def mlp {a b c d : ℕ} (g : EReal → EReal) (x : Mat a b) (w : Mat b c) (v : Mat c d) (r : Fin a) (j : Fin d) : EReal :=
  ∑ f : Fin c, g (hid x w r f) * v (ix2 f j)

/-- The first product's dimension numbers are a plain product's, -/
theorem dot_first : dot_S512x512_S512x2048_S512x2048_1_0_0_1_n_n = DotDims.plain 512 512 2048 := rfl
/-- and so are the second's. -/
theorem dot_second : dot_S512x2048_S2048x512_S512x512_1_0_0_1_n_n = DotDims.plain 512 2048 512 := rfl

/-- The two products with the activation between them, over plain matrices, as the body writes them. -/
def twoDots (x : FVec Ideal S512x512 .bf16) (w : FVec Ideal S512x2048 .bf16) (v : FVec Ideal S2048x512 .bf16) : FVec Ideal S512x512 .f32 :=
  matmul dot_S512x2048_S2048x512_S512x512_1_0_0_1_n_n none
    (truncf .bf16 (mulf (matmul dot_S512x512_S512x2048_S512x2048_1_0_0_1_n_n none x w (constant S512x2048 .f32 0x00000000#32))
      (logistic (matmul dot_S512x512_S512x2048_S512x2048_1_0_0_1_n_n none x w (constant S512x2048 .f32 0x00000000#32)))) bitsLt_bf16_f32)
    v (constant S512x512 .f32 0x00000000#32)

/-- They are the two-layer network. -/
theorem twoDots_apply (x : FVec Ideal S512x512 .bf16) (w : FVec Ideal S512x2048 .bf16) (v : FVec Ideal S2048x512 .bf16) (r j : Fin 512) :
    twoDots x w v (ix2 r j) = mlp silu x w v r j := by
  have h1 : ∀ (r : Fin 512) (f : Fin 2048), matmul dot_S512x512_S512x2048_S512x2048_1_0_0_1_n_n none x w
      (constant S512x2048 .f32 0x00000000#32) (ix2 r f) = hid x w r f := fun r f => by
    refine (Ideal.matmul_plain_apply none x w _ r f).trans ?_
    show Ideal.ofBits .f32 0x00000000#32 + _ = _
    rw [Ideal.ofBits_zero_f32, zero_add]
    rfl
  refine (Ideal.matmul_plain_apply none _ v _ r j).trans ?_
  show Ideal.ofBits .f32 0x00000000#32 + _ = _
  rw [Ideal.ofBits_zero_f32, zero_add]
  refine Finset.sum_congr rfl fun f _ => congrArg (· * v (ix2 f j)) ?_
  show matmul dot_S512x512_S512x2048_S512x2048_1_0_0_1_n_n none x w _ (ix2 r f) * Ideal.logistic (matmul dot_S512x512_S512x2048_S512x2048_1_0_0_1_n_n none x w _ (ix2 r f)) = _
  rw [h1]
  rfl

/-- A matrix given a leading axis of length one and freed of it again is the matrix. -/
theorem slab_back {α : Type} (v : S512x512.Idx → α) :
    shapeCast S512x512 (shapeCast S1x512x512 v shapeCasts_S512x512_S1x512x512) shapeCasts_S1x512x512_S512x512 = v :=
  shapeCast_shapeCast v _ _

/-- What a device adds for its own rows. -/
theorem own_part (x : FVec Ideal S512x512 .bf16) (w : FVec Ideal S512x2048 .bf16) (v : FVec Ideal S2048x512 .bf16) :
    k0_pay4 (F := Ideal) (k0_pay1 w) (k0_pay2 v) (k0_pay3 (F := Ideal) x) = twoDots x w v := by
  unfold k0_pay4 k0_pay1 k0_pay2 k0_pay3
  dsimp only
  rw [shapeCast_self, shapeCast_self, shapeCast_self, slab_back]
  rfl

/-- What a device sends back for another's rows, freed of its leading axis and its format. -/
theorem sent_part (x : FVec Ideal S512x512 .bf16) (w : FVec Ideal S512x2048 .bf16) (v : FVec Ideal S2048x512 .bf16) :
    (extf .f32 (shapeCast S512x512 (k0_pay5 (F := Ideal) (k0_pay1 w) (k0_pay2 v) (k0_pay3 (F := Ideal) x)) shapeCasts_S1x512x512_S512x512) bitsLt_bf16_f32
      : FVec Ideal S512x512 .f32) = twoDots x w v := by
  unfold k0_pay5 k0_pay1 k0_pay2 k0_pay3
  dsimp only
  rw [shapeCast_self, shapeCast_self, shapeCast_self, slab_back, slab_back]
  rfl

/-- The eight devices, taken from any of them on. -/
theorem sum_around (f : Dev nD → EReal) (c : Dev nD) :
    ∑ d, f d = f c + f (peer c 0) + f (peer c 1) + f (peer c 2) + f (peer c 3) + f (peer c 4) + f (peer c 5) + f (peer c 6) := by
  have e : ∀ c : Fin 8, c + 0 = c ∧ c + 1 = peer c 0 ∧ c + 2 = peer c 1 ∧ c + 3 = peer c 2 ∧ c + 4 = peer c 3 ∧ c + 5 = peer c 4
      ∧ c + 6 = peer c 5 ∧ c + 7 = peer c 6 := by decide
  obtain ⟨e0, e1, e2, e3, e4, e5, e6, e7⟩ := e c
  have h : ∑ d : Fin 8, f d = ∑ i : Fin 8, f ((c : Fin 8) + i) := (Equiv.sum_comp (Equiv.addLeft (c : Fin 8)) f).symm
  refine h.trans ?_
  rw [Fin.sum_univ_eight, e0, e1, e2, e3, e4, e5, e6, e7]

variable (m : (ℓ : Loc nD τ sig) → Buf (Elt Ideal) ℓ) (ρ : Dev nD → PrngReg)

/-- Device `c`'s result: the sum over the devices of what each makes of `c`'s rows. -/
theorem out_apply (c : Dev nD) (r j : Fin 512) :
    outAt m ρ c (ix2 r j) = ∑ d : Dev nD, mlp silu (xC m ρ c) (w1C m ρ d) (w2C m ρ d) r j := by
  rw [sum_around _ c]
  have s : ∀ d, mlp silu (xC m ρ c) (w1C m ρ d) (w2C m ρ d) r j
      = (extf .f32 (shapeCast S512x512 (T1 m ρ d c) shapeCasts_S1x512x512_S512x512) bitsLt_bf16_f32 : FVec Ideal S512x512 .f32) (ix2 r j) := fun d => by
    unfold T1 X1
    rw [sent_part, twoDots_apply]
  have o : mlp silu (xC m ρ c) (w1C m ρ c) (w2C m ρ c) r j
      = k0_pay4 (F := Ideal) (k0_pay1 (w1C m ρ c)) (k0_pay2 (w2C m ρ c)) (X1 m ρ c) (ix2 r j) := by
    unfold X1
    rw [own_part, twoDots_apply]
  rw [o, s, s, s, s, s, s, s]
  rfl

end Cert.KRun

end
-- ==== Proof.RefValue.lean ====
/-
What the references compute over the extended reals, and how it falls apart into the devices' parts: the hidden dimension of the whole
network is the eight devices' slices one after another, so an entry of the network's result is the sum of the eight devices' entries.
-/
module

public import proofs.«01_k».proof.Proof.Value
public import proofs.«01_k».proof.Proof.Gen.ReferenceIdeal.Run
public import proofs.«01_k».proof.Proof.Gen.SiluIdeal.Run
public import Idealize.ShloMosaic.Lib.StackMember
public import Idealize.ShloMosaic.Lib.Layout

@[expose] public section

set_option maxRecDepth 16384

noncomputable section

namespace Cert.KRun

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators

/-- An index of a matrix is the pair of its coordinates. -/
theorem pair_eta {a b : ℕ} (i : (⟨2, ![a, b]⟩ : Shape).Idx) : i = ValueIdx.ix2 (i 0) (i 1) := by
  funext q
  match q with
  | ⟨0, _⟩ => rfl
  | ⟨1, _⟩ => rfl

/-- The whole result of the network with the activation `g`. -/
def whole (g : EReal → EReal) (x : Mat 4096 512) (w : Mat 512 16384) (v : Mat 16384 512) : Mat 4096 512 :=
  fun i => mlp g x w v (i 0) (i 1)

/-- The activation as a quotient: a number over one plus the exponential of its negative. -/
def siluRaw (h : EReal) : EReal := Ideal.div h (Ideal.ofBits .f32 0x3F800000#32 + Ideal.exp (-h))

/-- The same with the exponent's argument held between -60 and 60. -/
def clipped (h : EReal) : EReal := Ideal.div h (1 + Ideal.exp (-(min 60 (max (-60) h))))

/-- That activation with its constants as words. -/
def clippedRaw (h : EReal) : EReal :=
  Ideal.div h (Ideal.ofBits .f32 0x3F800000#32
    + Ideal.exp (-(min (((60#32 : BitVec 32).toInt : ℝ) : EReal) (max (((4294967236#32 : BitVec 32).toInt : ℝ) : EReal) h))))

/-- The exponential is not negative, -/
theorem exp_nonneg (h : EReal) : 0 ≤ Ideal.exp h := by
  induction h with
  | bot => exact le_refl _
  | top => exact le_top
  | coe r => exact EReal.coe_nonneg.mpr (Real.exp_pos r).le

/-- so one plus it is not zero. -/
theorem denominator_ne (h : EReal) : 1 + Ideal.exp h ≠ 0 := by
  have h1 : (1 : EReal) ≤ 1 + Ideal.exp h := le_add_of_nonneg_right (exp_nonneg h)
  exact (lt_of_lt_of_le zero_lt_one h1).ne'

/-- A quotient by one plus an exponential is the product with the reciprocal, whatever the number is, infinities too. -/
theorem div_denominator (x h : EReal) : Ideal.div x (1 + Ideal.exp h) = x * Ideal.div 1 (1 + Ideal.exp h) := by
  unfold Ideal.div
  rw [if_neg (denominator_ne h), if_neg (denominator_ne h), one_mul]

/-- The quotient is the number times its logistic. -/
theorem silu_raw (h : EReal) : siluRaw h = silu h := by
  unfold siluRaw silu Ideal.logistic
  rw [Ideal.ofBits_one_f32, div_denominator]

/-- The upper bound of the clip is sixty. -/
theorem sixty : (((60#32 : BitVec 32).toInt : ℝ) : EReal) = 60 := by
  have : (60#32 : BitVec 32).toInt = 60 := by decide
  rw [this]; exact EReal.coe_natCast (n := 60)
/-- The lower bound of the clip is minus sixty. -/
theorem minus_sixty : (((4294967236#32 : BitVec 32).toInt : ℝ) : EReal) = -60 := by
  have : (4294967236#32 : BitVec 32).toInt = -60 := by decide
  rw [this, Int.cast_neg, EReal.coe_neg]; exact congrArg Neg.neg (EReal.coe_natCast (n := 60))

/-- The words are one, 60 and -60. -/
theorem clipped_raw (h : EReal) : clippedRaw h = clipped h := by
  unfold clippedRaw clipped
  rw [Ideal.ofBits_one_f32, sixty, minus_sixty]

/-- Between -60 and 60 holding the argument changes nothing. -/
theorem clipped_eq_silu {h : EReal} (lo : -60 ≤ h) (hi : h ≤ 60) : clipped h = silu h := by
  unfold clipped silu Ideal.logistic
  rw [max_eq_right lo, min_eq_right hi, div_denominator]

/-- Two host products with an activation between them are the network with that activation. -/
theorem host_mlp {a b c d : ℕ} (g : EReal → EReal) (x : Mat a b) (w : Mat b c) (v : Mat c d) (y : Mat a c)
    (hy : ∀ i, y i = g (Host.dotGeneral (F := Ideal) (φ₁ := .f32) (φ₂ := .f32) (DotDims.plain a b c) none x w i)) (i : (⟨2, ![a, d]⟩ : Shape).Idx) :
    Host.dotGeneral (F := Ideal) (φ₁ := .f32) (φ₂ := .f32) (DotDims.plain a c d) none y v i = mlp g x w v (i 0) (i 1) := by
  rw [pair_eta i]
  refine (StackMember.dotGeneral_plain_apply (φ₁ := .f32) (φ₂ := .f32) none y v (i 0) (i 1)).trans ?_
  refine Finset.sum_congr rfl fun f _ => congrArg (· * v (ValueIdx.ix2 f (i 1))) ?_
  rw [hy, StackMember.dotGeneral_plain_apply (φ₁ := .f32) (φ₂ := .f32) none x w (i 0) f]
  rfl

/-- The reference without the clip ends with the network's result, its arguments unchanged. -/
theorem silu_run (m : (ℓ : Loc Cert.SiluIdeal.nD Cert.SiluIdeal.τ Cert.SiluIdeal.sig) → Buf (Elt Ideal) ℓ) (ρ : Dev Cert.SiluIdeal.nD → PrngReg) :
    θ_run (Cert.SiluIdeal.defs (F := Ideal)) (onTc (τ := Cert.SiluIdeal.τ) (Cert.SiluIdeal.main (F := Ideal))) ⟨m, fun _ => 0, ρ⟩ (fun r =>
      r.2.mem (((0 : Dev Cert.SiluIdeal.nD).tc : Thread Cert.SiluIdeal.nD Cert.SiluIdeal.τ).loc Cert.SiluIdeal.main_v9) = whole silu (m (((0 : Dev Cert.SiluIdeal.nD).tc : Thread Cert.SiluIdeal.nD Cert.SiluIdeal.τ).loc Cert.SiluIdeal.main_arg0))
        (m (((0 : Dev Cert.SiluIdeal.nD).tc : Thread Cert.SiluIdeal.nD Cert.SiluIdeal.τ).loc Cert.SiluIdeal.main_arg1)) (m (((0 : Dev Cert.SiluIdeal.nD).tc : Thread Cert.SiluIdeal.nD Cert.SiluIdeal.τ).loc Cert.SiluIdeal.main_arg2))
      ∧ r.2.mem (((0 : Dev Cert.SiluIdeal.nD).tc : Thread Cert.SiluIdeal.nD Cert.SiluIdeal.τ).loc Cert.SiluIdeal.main_arg0) = m (((0 : Dev Cert.SiluIdeal.nD).tc : Thread Cert.SiluIdeal.nD Cert.SiluIdeal.τ).loc Cert.SiluIdeal.main_arg0)
      ∧ r.2.mem (((0 : Dev Cert.SiluIdeal.nD).tc : Thread Cert.SiluIdeal.nD Cert.SiluIdeal.τ).loc Cert.SiluIdeal.main_arg1) = m (((0 : Dev Cert.SiluIdeal.nD).tc : Thread Cert.SiluIdeal.nD Cert.SiluIdeal.τ).loc Cert.SiluIdeal.main_arg1)
      ∧ r.2.mem (((0 : Dev Cert.SiluIdeal.nD).tc : Thread Cert.SiluIdeal.nD Cert.SiluIdeal.τ).loc Cert.SiluIdeal.main_arg2) = m (((0 : Dev Cert.SiluIdeal.nD).tc : Thread Cert.SiluIdeal.nD Cert.SiluIdeal.τ).loc Cert.SiluIdeal.main_arg2)) :=
  (θ_run Cert.SiluIdeal.defs _ _).mono (fun r h => by
    refine ⟨(h 0).1.trans ?_, (h 0).2⟩
    funext i
    refine host_mlp (a := 4096) (b := 512) (c := 16384) (d := 512) silu (m (((0 : Dev Cert.SiluIdeal.nD).tc : Thread Cert.SiluIdeal.nD Cert.SiluIdeal.τ).loc Cert.SiluIdeal.main_arg0))
      (m (((0 : Dev Cert.SiluIdeal.nD).tc : Thread Cert.SiluIdeal.nD Cert.SiluIdeal.τ).loc Cert.SiluIdeal.main_arg1)) (m (((0 : Dev Cert.SiluIdeal.nD).tc : Thread Cert.SiluIdeal.nD Cert.SiluIdeal.τ).loc Cert.SiluIdeal.main_arg2)) _ (fun q => ?_) i
    exact silu_raw _)
    (Cert.SiluIdeal.Value.run m ρ)

/-- The reference ends with the result of the network whose activation is held, its arguments unchanged. -/
theorem clipped_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      r.2.mem (((0 : Dev Cert.ReferenceIdeal.nD).tc : Thread Cert.ReferenceIdeal.nD Cert.ReferenceIdeal.τ).loc Cert.ReferenceIdeal.main_v10) = whole clipped (m (((0 : Dev Cert.ReferenceIdeal.nD).tc : Thread Cert.ReferenceIdeal.nD Cert.ReferenceIdeal.τ).loc Cert.ReferenceIdeal.main_arg0))
        (m (((0 : Dev Cert.ReferenceIdeal.nD).tc : Thread Cert.ReferenceIdeal.nD Cert.ReferenceIdeal.τ).loc Cert.ReferenceIdeal.main_arg1)) (m (((0 : Dev Cert.ReferenceIdeal.nD).tc : Thread Cert.ReferenceIdeal.nD Cert.ReferenceIdeal.τ).loc Cert.ReferenceIdeal.main_arg2))
      ∧ r.2.mem (((0 : Dev Cert.ReferenceIdeal.nD).tc : Thread Cert.ReferenceIdeal.nD Cert.ReferenceIdeal.τ).loc Cert.ReferenceIdeal.main_arg0) = m (((0 : Dev Cert.ReferenceIdeal.nD).tc : Thread Cert.ReferenceIdeal.nD Cert.ReferenceIdeal.τ).loc Cert.ReferenceIdeal.main_arg0)
      ∧ r.2.mem (((0 : Dev Cert.ReferenceIdeal.nD).tc : Thread Cert.ReferenceIdeal.nD Cert.ReferenceIdeal.τ).loc Cert.ReferenceIdeal.main_arg1) = m (((0 : Dev Cert.ReferenceIdeal.nD).tc : Thread Cert.ReferenceIdeal.nD Cert.ReferenceIdeal.τ).loc Cert.ReferenceIdeal.main_arg1)
      ∧ r.2.mem (((0 : Dev Cert.ReferenceIdeal.nD).tc : Thread Cert.ReferenceIdeal.nD Cert.ReferenceIdeal.τ).loc Cert.ReferenceIdeal.main_arg2) = m (((0 : Dev Cert.ReferenceIdeal.nD).tc : Thread Cert.ReferenceIdeal.nD Cert.ReferenceIdeal.τ).loc Cert.ReferenceIdeal.main_arg2)) :=
  (θ_run Cert.ReferenceIdeal.defs _ _).mono (fun r h => by
    refine ⟨(h 0).1.trans ?_, (h 0).2⟩
    funext i
    refine host_mlp (a := 4096) (b := 512) (c := 16384) (d := 512) clipped (m (((0 : Dev Cert.ReferenceIdeal.nD).tc : Thread Cert.ReferenceIdeal.nD Cert.ReferenceIdeal.τ).loc Cert.ReferenceIdeal.main_arg0))
      (m (((0 : Dev Cert.ReferenceIdeal.nD).tc : Thread Cert.ReferenceIdeal.nD Cert.ReferenceIdeal.τ).loc Cert.ReferenceIdeal.main_arg1)) (m (((0 : Dev Cert.ReferenceIdeal.nD).tc : Thread Cert.ReferenceIdeal.nD Cert.ReferenceIdeal.τ).loc Cert.ReferenceIdeal.main_arg2)) _ (fun q => ?_) i
    exact clipped_raw _)
    (Cert.ReferenceIdeal.Value.run m ρ)

/-- A block of rows, entry by entry, -/
theorem block_rows {a b k : ℕ} (x : Mat (k * a) b) (h : Layout.Tiles ⟨2, ![a, b]⟩ ⟨2, ![k * a, b]⟩ 0 k) (c : Fin k) (r : Fin a) (j : Fin b)
    (hr : c.val * a + r.val < k * a) :
    Layout.block ⟨2, ![a, b]⟩ ⟨2, ![k * a, b]⟩ 0 k c x h (ValueIdx.ix2 r j) = x (ValueIdx.ix2 ⟨c.val * a + r.val, hr⟩ j) :=
  congrArg x (Shape.idx_ext₂ (n := ![k * a, b]) rfl rfl)

/-- and a block of columns. -/
theorem block_cols {a b k : ℕ} (x : Mat a (k * b)) (h : Layout.Tiles ⟨2, ![a, b]⟩ ⟨2, ![a, k * b]⟩ 1 k) (c : Fin k) (r : Fin a) (j : Fin b)
    (hj : c.val * b + j.val < k * b) :
    Layout.block ⟨2, ![a, b]⟩ ⟨2, ![a, k * b]⟩ 1 k c x h (ValueIdx.ix2 r j) = x (ValueIdx.ix2 r ⟨c.val * b + j.val, hj⟩) :=
  congrArg x (Shape.idx_ext₂ (n := ![a, k * b]) rfl rfl)

/-- Position `l` of slice `d` is a position of the whole. -/
theorem slice_lt {k n : ℕ} (d : Fin k) (l : Fin n) : d.val * n + l.val < k * n :=
  calc d.val * n + l.val < d.val * n + n := Nat.add_lt_add_left l.isLt _
    _ = (d.val + 1) * n := (Nat.succ_mul _ _).symm
    _ ≤ k * n := Nat.mul_le_mul_right _ d.isLt

/-- A sum over a whole dimension, slice by slice. -/
theorem sum_slices {k n : ℕ} (f : Fin (k * n) → EReal) : ∑ q, f q = ∑ d : Fin k, ∑ l : Fin n, f ⟨d.val * n + l.val, slice_lt d l⟩ := by
  rw [← Fintype.sum_prod_type']
  refine (Fintype.sum_equiv finProdFinEquiv _ f fun p => congrArg f (Fin.ext ?_)).symm
  show p.1.val * n + p.2.val = p.2.val + n * p.1.val
  rw [Nat.mul_comm, Nat.add_comm]

/-- A row block of the network's result, the hidden dimension and the rows cut into `k` parts each. -/
theorem mlp_blocks_of {k a b e n : ℕ} (g : EReal → EReal) (x : Mat (k * a) b) (w : Mat b (k * n)) (v : Mat (k * n) e)
    (hx : Layout.Tiles ⟨2, ![a, b]⟩ ⟨2, ![k * a, b]⟩ 0 k) (hw : Layout.Tiles ⟨2, ![b, n]⟩ ⟨2, ![b, k * n]⟩ 1 k)
    (hv : Layout.Tiles ⟨2, ![n, e]⟩ ⟨2, ![k * n, e]⟩ 0 k) (c : Fin k) (r : Fin a) (j : Fin e) :
    mlp g x w v ⟨c.val * a + r.val, slice_lt c r⟩ j
      = ∑ d : Fin k, mlp g (Layout.block _ _ 0 k c x hx) (Layout.block _ _ 1 k d w hw) (Layout.block _ _ 0 k d v hv) r j := by
  unfold mlp
  rw [sum_slices]
  refine Finset.sum_congr rfl fun d _ => Finset.sum_congr rfl fun l _ => ?_
  rw [block_rows v hv d l j (slice_lt d l)]
  refine congrArg (g · * _) (Finset.sum_congr rfl fun q _ => ?_)
  rw [block_rows x hx c r q (slice_lt c r), block_cols w hw d q l (slice_lt d l)]

/-- The entry of the network's result in row `r` of block `c`, column `j`, is the sum over the devices of the entry of the network
    over block `c` of the rows and the devices' blocks of the weights. -/
theorem mlp_blocks (g : EReal → EReal) (x : Mat 4096 512) (w : Mat 512 16384) (v : Mat 16384 512) (c : Fin 8) (r j : Fin 512) :
    Layout.block ⟨2, ![512, 512]⟩ ⟨2, ![4096, 512]⟩ 0 8 c (whole g x w v) (by decide) (ValueIdx.ix2 r j)
      = ∑ d : Fin 8, mlp g (Layout.block ⟨2, ![512, 512]⟩ ⟨2, ![4096, 512]⟩ 0 8 c x (by decide))
          (Layout.block ⟨2, ![512, 2048]⟩ ⟨2, ![512, 16384]⟩ 1 8 d w (by decide))
          (Layout.block ⟨2, ![2048, 512]⟩ ⟨2, ![16384, 512]⟩ 0 8 d v (by decide)) r j := by
  have e : ∀ (p q : Fin 4096) (j j' : Fin 512), p = q → j = j' → mlp g x w v p j = mlp g x w v q j' := by
    rintro p _ j _ rfl rfl; rfl
  exact (e _ ⟨c.val * 512 + r.val, slice_lt c r⟩ _ j (Fin.ext rfl) (Fin.ext rfl)).trans
    (mlp_blocks_of (k := 8) (a := 512) (b := 512) (e := 512) (n := 2048) g x w v _ _ _ c r j)

end Cert.KRun

end
-- ==== Proof.Clip.lean ====
/-
When the reference's clip changes nothing. The precondition bounds the squared length of every row of a device's rows by 1800 and of every
column of its first weights by 2. By the Cauchy-Schwarz inequality every hidden entry then lies between -60 and 60.
-/
module

public import proofs.«01_k».proof.Proof.RefValue
public import proofs.«01_k».proof.Proof.Gen.Pre_clip_is_idle_KernelIdeal
public import Idealize.ShloMosaic.Lib.ReduceAll
public import Idealize.ShloMosaic.Lib.Pointwise
public import Mathlib.Algebra.Order.BigOperators.Ring.Finset
public import Mathlib.Algebra.Order.BigOperators.Group.Finset

@[expose] public section

set_option maxRecDepth 16384

noncomputable section

namespace Cert.KRun

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators

/-- The square of an extended real is not negative. -/
theorem square_nonneg (x : EReal) : 0 ≤ x * x := by
  induction x with
  | bot => rw [EReal.bot_mul_bot]; exact le_top
  | top => rw [EReal.top_mul_top]; exact le_top
  | coe r => rw [← EReal.coe_mul]; exact EReal.coe_nonneg.mpr (mul_self_nonneg r)

/-- An extended real whose square has a real bound is real. -/
theorem real_of_square {x : EReal} {b : ℝ} (h : x * x ≤ (b : EReal)) : ∃ r : ℝ, x = r := by
  induction x with
  | bot => rw [EReal.bot_mul_bot] at h; exact absurd (top_le_iff.mp h) (EReal.coe_ne_top b)
  | top => rw [EReal.top_mul_top] at h; exact absurd (top_le_iff.mp h) (EReal.coe_ne_top b)
  | coe r => exact ⟨r, rfl⟩

/-- A sum of reals, as an extended real. -/
theorem sum_real {n : ℕ} (f : Fin n → ℝ) : ∑ k, (f k : EReal) = ((∑ k, f k : ℝ) : EReal) := by
  have h : ∀ s : Finset (Fin n), ∑ k ∈ s, (f k : EReal) = ((∑ k ∈ s, f k : ℝ) : EReal) := fun s => by
    induction s using Finset.induction_on with
    | empty => simp
    | insert a s ha ih => rw [Finset.sum_insert ha, Finset.sum_insert ha, ih, EReal.coe_add]
  exact h Finset.univ

/-- Numbers whose squares' sum has a real bound are real. -/
theorem reals_of_squares {n : ℕ} {x : Fin n → EReal} {b : ℝ} (h : ∑ k, x k * x k ≤ (b : EReal)) :
    ∃ a : Fin n → ℝ, (∀ k, x k = a k) ∧ ∑ k, a k ^ 2 ≤ b := by
  have one : ∀ k, ∃ r : ℝ, x k = r := fun k =>
    real_of_square ((Finset.single_le_sum (f := fun k => x k * x k) (fun i _ => square_nonneg (x i)) (Finset.mem_univ k)).trans h)
  choose a ha using one
  refine ⟨a, ha, ?_⟩
  have e : ∑ k, x k * x k = ((∑ k, a k ^ 2 : ℝ) : EReal) := by
    rw [← sum_real]
    refine Finset.sum_congr rfl fun k _ => ?_
    rw [ha k, ← EReal.coe_mul, pow_two]
  rw [e] at h
  exact EReal.coe_le_coe_iff.mp h

/-- Cauchy and Schwarz: with squared lengths of at most 1800 and 2 the product of two vectors lies between -60 and 60. -/
theorem product_bounds {n : ℕ} {x y : Fin n → EReal} (hx : ∑ k, x k * x k ≤ ((1800 : ℝ) : EReal)) (hy : ∑ k, y k * y k ≤ ((2 : ℝ) : EReal)) :
    -60 ≤ ∑ k, x k * y k ∧ ∑ k, x k * y k ≤ 60 := by
  obtain ⟨a, ha, ha2⟩ := reals_of_squares hx
  obtain ⟨b, hb, hb2⟩ := reals_of_squares hy
  have e : ∑ k, x k * y k = ((∑ k, a k * b k : ℝ) : EReal) := by
    rw [← sum_real]
    refine Finset.sum_congr rfl fun k _ => ?_
    rw [ha k, hb k, ← EReal.coe_mul]
  have q : (∑ k, a k * b k) ^ 2 ≤ 60 ^ 2 :=
    calc (∑ k, a k * b k) ^ 2 ≤ (∑ k, a k ^ 2) * ∑ k, b k ^ 2 := Finset.sum_mul_sq_le_sq_mul_sq _ _ _
      _ ≤ 1800 * 2 := mul_le_mul ha2 hb2 (Finset.sum_nonneg fun _ _ => sq_nonneg _) (by norm_num)
      _ = 60 ^ 2 := by norm_num
  have bd := abs_le_of_sq_le_sq' q (by norm_num)
  have s : (60 : EReal) = ((60 : ℝ) : EReal) := (EReal.coe_natCast (n := 60)).symm
  rw [e, s, ← EReal.coe_neg]
  exact ⟨EReal.coe_le_coe_iff.mpr bd.1, EReal.coe_le_coe_iff.mpr bd.2⟩

/-- The two bounds' words. -/
theorem word_1800 : Ideal.ofBits .f32 0x44E10000#32 = ((1800 : ℝ) : EReal) := by
  simp [Ideal.ofBits, Ideal.ieee, -EReal.coe_mul]; norm_num
/-- The word of the bound on the columns is two. -/
theorem word_2 : Ideal.ofBits .f32 0x40000000#32 = ((2 : ℝ) : EReal) := by
  simp [Ideal.ofBits, Ideal.ieee, -EReal.coe_mul]; norm_num

/-- A comparison's word that is one says what was compared. -/
theorem le_of_word {x y : EReal} (h : Ideal.cmp .ole x y = 1#1) : x ≤ y := by
  by_contra hn
  have : Ideal.cmp .ole x y = 0#1 := by simp [Ideal.cmp, hn]
  rw [this] at h
  exact absurd h (by decide)

/-- What the precondition says of one device's blocks: the rows' and the columns' squared lengths are bounded. -/
theorem lengths_of_pre {x : FVec Ideal ⟨2, ![512, 512]⟩ .bf16} {w : FVec Ideal ⟨2, ![512, 2048]⟩ .bf16} {v : FVec Ideal ⟨2, ![2048, 512]⟩ .bf16}
    (h : Cert.Pre_clip_is_idle_KernelIdeal.fn (F := Ideal) x w v = fun _ => 1#1) :
    (∀ r : Fin 512, ∑ k : Fin 512, x (ValueIdx.ix2 r k) * x (ValueIdx.ix2 r k) ≤ ((1800 : ℝ) : EReal))
    ∧ ∀ f : Fin 2048, ∑ k : Fin 512, w (ValueIdx.ix2 k f) * w (ValueIdx.ix2 k f) ≤ ((2 : ℝ) : EReal) := by
  have h0 := congrFun h (Shape.Idx.first Cert.Pre_clip_is_idle_KernelIdeal.Facts.h_S_)
  unfold Cert.Pre_clip_is_idle_KernelIdeal.fn at h0
  dsimp only at h0
  obtain ⟨h1, h2⟩ := IntOp.andi_eq_one.1 h0
  haveI : Subsingleton (Cert.Pre_clip_is_idle_KernelIdeal.S_).Idx := ⟨fun a b => funext fun i => i.elim0⟩
  refine ⟨fun r => ?_, fun f => ?_⟩
  · have e := le_of_word (Host.reduce_andi_all _ _ _ _ _ h1 (ValueIdx.ix1 r))
    have s := Ideal.hostReduceAdd_r2_a1 Cert.Pre_clip_is_idle_KernelIdeal.Facts.reducesTo_S512x512_S512_d1
      (fun i => x i * x i) (Ideal.ofBits .f32 0x00000000#32) (ValueIdx.ix1 r)
    have e' := (le_of_eq s.symm).trans e
    rw [Ideal.ofBits_zero_f32, zero_add] at e'
    refine e'.trans (le_of_eq ?_)
    exact word_1800
  · have e := le_of_word (Host.reduce_andi_all _ _ _ _ _ h2 (ValueIdx.ix1 f))
    have s := Ideal.hostReduceAdd_r2_a0 Cert.Pre_clip_is_idle_KernelIdeal.Facts.reducesTo_S512x2048_S2048_d0
      (fun i => w i * w i) (Ideal.ofBits .f32 0x00000000#32) (ValueIdx.ix1 f)
    have e' := (le_of_eq s.symm).trans e
    rw [Ideal.ofBits_zero_f32, zero_add] at e'
    refine e'.trans (le_of_eq ?_)
    exact word_2

/-- Where rows and columns have such lengths, the held activation is the plain one. -/
theorem mlp_clipped {x : Mat 512 512} {w : Mat 512 2048} {v : Mat 2048 512}
    (hx : ∀ r : Fin 512, ∑ k : Fin 512, x (ValueIdx.ix2 r k) * x (ValueIdx.ix2 r k) ≤ ((1800 : ℝ) : EReal))
    (hw : ∀ f : Fin 2048, ∑ k : Fin 512, w (ValueIdx.ix2 k f) * w (ValueIdx.ix2 k f) ≤ ((2 : ℝ) : EReal)) (r j : Fin 512) :
    mlp clipped x w v r j = mlp silu x w v r j :=
  Finset.sum_congr rfl fun f _ => congrArg (· * _) (clipped_eq_silu (product_bounds (hx r) (hw f)).1 (product_bounds (hx r) (hw f)).2)

end Cert.KRun

end
-- ==== Proof.Claims.lean ====
/-
The claims. Where the devices' arguments are the blocks of three whole arrays, each device's result is its block of the network over the
whole arrays, with the plain activation, and under the precondition with the held one too. The frames of the four programs.
-/
module

public import proofs.«01_k».proof.Defs
public import proofs.«01_k».proof.Proof.Finals
public import proofs.«01_k».proof.Proof.RefValue
public import proofs.«01_k».proof.Proof.Clip
public import proofs.«01_k».proof.Proof.Gen.Pre_clip_is_idle_ReferenceIdeal
public import Idealize.ShloMosaic.Lib.Quiescent

@[expose] public section

set_option maxRecDepth 16384

noncomputable section

namespace Cert.KRun

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- Over blocks of whole arrays, a device stores its block of the network's result. -/
theorem stored_block (m : (ℓ : Loc Cert.KernelIdeal.nD Cert.KernelIdeal.τ Cert.KernelIdeal.sig) → Buf (Elt Ideal) ℓ) (ρ : Dev Cert.KernelIdeal.nD → PrngReg) {x : Mat 4096 512} {w : Mat 512 16384} {v : Mat 16384 512}
    (hb : ∀ c : Dev Cert.KernelIdeal.nD,
      m ((c : Thread Cert.KernelIdeal.nD Cert.KernelIdeal.τ).loc Cert.KernelIdeal.main_arg0) = Layout.block ⟨2, ![512, 512]⟩ ⟨2, ![4096, 512]⟩ 0 8 c x (by decide)
      ∧ m ((c : Thread Cert.KernelIdeal.nD Cert.KernelIdeal.τ).loc Cert.KernelIdeal.main_arg1) = Layout.block ⟨2, ![512, 2048]⟩ ⟨2, ![512, 16384]⟩ 1 8 c w (by decide)
      ∧ m ((c : Thread Cert.KernelIdeal.nD Cert.KernelIdeal.τ).loc Cert.KernelIdeal.main_arg2) = Layout.block ⟨2, ![2048, 512]⟩ ⟨2, ![16384, 512]⟩ 0 8 c v (by decide)) (c : Dev Cert.KernelIdeal.nD) :
    outAt m ρ c = Layout.block ⟨2, ![512, 512]⟩ ⟨2, ![4096, 512]⟩ 0 8 c (whole silu x w v) (by decide) := by
  funext i
  obtain ⟨r, j, rfl⟩ : ∃ r j, i = ValueIdx.ix2 r j := ⟨i 0, i 1, pair_eta i⟩
  refine (out_apply m ρ c r j).trans (Eq.trans ?_ (mlp_blocks silu x w v c r j).symm)
  have e : ∀ d : Dev Cert.KernelIdeal.nD, mlp silu (xC m ρ c) (w1C m ρ d) (w2C m ρ d) r j
      = mlp silu (Layout.block ⟨2, ![512, 512]⟩ ⟨2, ![4096, 512]⟩ 0 8 c x (by decide))
          (Layout.block ⟨2, ![512, 2048]⟩ ⟨2, ![512, 16384]⟩ 1 8 d w (by decide))
          (Layout.block ⟨2, ![2048, 512]⟩ ⟨2, ![16384, 512]⟩ 0 8 d v (by decide)) r j := fun d => by
    rw [xC_eq, w1C_eq, w2C_eq, (hb c).1, (hb d).2.1, (hb d).2.2]
  exact Finset.sum_congr (M := EReal) rfl fun d _ => e d

/-- Where the devices' blocks have bounded rows and columns, the network's block is the same with the held activation. -/
theorem held_block (m : (ℓ : Loc Cert.KernelIdeal.nD Cert.KernelIdeal.τ Cert.KernelIdeal.sig) → Buf (Elt Ideal) ℓ) {x : Mat 4096 512} {w : Mat 512 16384} {v : Mat 16384 512}
    (hb : ∀ c : Dev Cert.KernelIdeal.nD,
      m ((c : Thread Cert.KernelIdeal.nD Cert.KernelIdeal.τ).loc Cert.KernelIdeal.main_arg0) = Layout.block ⟨2, ![512, 512]⟩ ⟨2, ![4096, 512]⟩ 0 8 c x (by decide)
      ∧ m ((c : Thread Cert.KernelIdeal.nD Cert.KernelIdeal.τ).loc Cert.KernelIdeal.main_arg1) = Layout.block ⟨2, ![512, 2048]⟩ ⟨2, ![512, 16384]⟩ 1 8 c w (by decide)
      ∧ m ((c : Thread Cert.KernelIdeal.nD Cert.KernelIdeal.τ).loc Cert.KernelIdeal.main_arg2) = Layout.block ⟨2, ![2048, 512]⟩ ⟨2, ![16384, 512]⟩ 0 8 c v (by decide))
    (hp : ∀ c : Dev Cert.KernelIdeal.nD, Cert.Pre_clip_is_idle_KernelIdeal.fn (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) = fun _ => 1#1)
    (c : Dev Cert.KernelIdeal.nD) :
    Layout.block ⟨2, ![512, 512]⟩ ⟨2, ![4096, 512]⟩ 0 8 c (whole silu x w v) (by decide)
      = Layout.block ⟨2, ![512, 512]⟩ ⟨2, ![4096, 512]⟩ 0 8 c (whole clipped x w v) (by decide) := by
  funext i
  obtain ⟨r, j, rfl⟩ : ∃ r j, i = ValueIdx.ix2 r j := ⟨i 0, i 1, pair_eta i⟩
  refine (mlp_blocks silu x w v c r j).trans (Eq.trans ?_ (mlp_blocks clipped x w v c r j).symm)
  refine Finset.sum_congr rfl fun d _ => ?_
  have hx := (lengths_of_pre (hp c)).1
  have hw := (lengths_of_pre (hp d)).2
  rw [(hb c).1] at hx
  rw [(hb d).2.1] at hw
  exact (mlp_clipped hx hw r j).symm

/-- The kernel as printed and the kernel at the extended reals have the same body table. -/
theorem body_table : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl
/-- The two programs have the same whole table, with the regions added. -/
theorem whole_table : Cert.Kernel.defs (F := Bits) = Cert.KernelIdeal.defs (F := Bits) := by
  unfold Cert.Kernel.defs Cert.KernelIdeal.defs
  exact congrArg (Pipeline.defs Cert.KernelIdeal.pcfgs) body_table

/-- The kernel's frame, at its own floats. -/
theorem kernel_frame : Cert.quiescent_Kernel := by
  intro m ρ _
  rw [whole_table]
  exact (θ_run Cert.KernelIdeal.defs _ _).mono (fun _ h => h) (frame_run (F := Bits) m ρ)

/-- The frame of the kernel at the extended reals, without and with the precondition. -/
theorem ideal_frame : Cert.quiescent_KernelIdeal := fun m ρ _ => frame_run m ρ
/-- The same frame, under the precondition. -/
theorem ideal_frame_pre : Cert.quiescent_KernelIdeal_pre_clip_is_idle_KernelIdeal := fun m ρ _ => frame_run m ρ

/-- The frame of the reference, without and with the precondition, and of the reference without the clip. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)
/-- The reference's frame, under the precondition. -/
theorem reference_frame_pre : Cert.quiescent_ReferenceIdeal_pre_clip_is_idle_ReferenceIdeal := fun m ρ _ =>
  reference_frame m ρ trivial
/-- The frame of the reference without the clip. -/
theorem silu_frame : Cert.quiescent_SiluIdeal := fun m ρ _ =>
  (θ_run Cert.SiluIdeal.defs _ _).mono (fun r h => ⟨fun c => (h c).2, sem_eq_zero_of_no_sems (by decide) r.2⟩)
    (Cert.SiluIdeal.Value.run m ρ)

/-- For any inputs each device's result is its block of the result of the reference without the clip. -/
theorem silu_claim : Cert.algebraic_KernelIdeal_SiluIdeal := fun m ρ m' ρ' _ hb =>
  ⟨_, (θ_run Cert.KernelIdeal.defs _ _).mono (fun r h c => ⟨(h c).1.trans (stored_block m ρ hb c), (h c).2⟩) (value_run m ρ), silu_run m' ρ'⟩

/-- Under the precondition each device's result is its block of the reference's result. -/
theorem clip_claim : Cert.algebraic_KernelIdeal_ReferenceIdeal_pre_clip_is_idle_KernelIdeal := fun m ρ m' ρ' hp hb =>
  ⟨_, (θ_run Cert.KernelIdeal.defs _ _).mono (fun r h c => ⟨((h c).1.trans (stored_block m ρ hb c)).trans (held_block m hb hp c), (h c).2⟩)
    (value_run m ρ), clipped_run m' ρ'⟩

end Cert.KRun

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.SiluIdeal
public import proofs.«01_k».proof.Proof.Gen.SiluIdeal.Run
public import proofs.«01_k».proof.Proof.Gen.Pre_clip_is_idle_KernelIdeal
public import proofs.«01_k».proof.Proof.Gen.Pre_clip_is_idle_ReferenceIdeal
public import proofs.«01_k».proof.Proof.Claims

@[expose] public section

noncomputable section

namespace Cert.Proof

open Idealize.ShloMosaic Idealize.SL.Sem

/-- Every claim of the certificate: the frames, the unchanged floats, and the two value claims. -/
theorem claim : Cert.Claim := ⟨Cert.Kernel.Gen.facts, Cert.KernelIdeal.Gen.facts, Cert.ReferenceIdeal.Gen.facts, Cert.SiluIdeal.Gen.facts,
    Cert.Pre_clip_is_idle_KernelIdeal.Gen.facts, Cert.Pre_clip_is_idle_ReferenceIdeal.Gen.facts,
    Cert.KRun.kernel_frame, Cert.KRun.ideal_frame, Cert.KRun.ideal_frame_pre, Cert.KRun.reference_frame, Cert.KRun.reference_frame_pre,
    Cert.KRun.silu_frame, trivial, Cert.KRun.clip_claim, Cert.KRun.silu_claim⟩

end Cert.Proof

end
